-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "w_red" .f32 0x3E990000#32 ((2507355 / 8388608 : ℝ) : EReal)
  ∧ IdealRules.named_const.Statement Cert.KernelIdeal.κ "w_green" .f32 0x3F160000#32 ((4924113 / 8388608 : ℝ) : EReal)
  ∧ IdealRules.named_const.Statement Cert.KernelIdeal.κ "w_blue" .f32 0x3DE90000#32 ((15300821 / 134217728 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x1024x3 : Shape := ⟨4, ![16, 1024, 1024, 3]⟩
abbrev S16x1024x1024x1 : Shape := ⟨4, ![16, 1024, 1024, 1]⟩
abbrev S16x1024x1024 : Shape := ⟨3, ![16, 1024, 1024]⟩
abbrev S16384x1024 : Shape := ⟨2, ![16384, 1024]⟩
abbrev S1x1x256 : Shape := ⟨3, ![1, 1, 256]⟩
abbrev S512x1024 : Shape := ⟨2, ![512, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S1x1x1 : Shape := ⟨3, ![1, 1, 1]⟩
abbrev S_ : Shape := ⟨0, ![]⟩
abbrev S1x4x64x1024 : Shape := ⟨4, ![1, 4, 64, 1024]⟩
abbrev S128x1024 : Shape := ⟨2, ![128, 1024]⟩
abbrev S64x128x1024 : Shape := ⟨3, ![64, 128, 1024]⟩
abbrev S1x128x1024 : Shape := ⟨3, ![1, 128, 1024]⟩
abbrev S64x1024 : Shape := ⟨2, ![64, 1024]⟩
abbrev S1x1x64x1024 : Shape := ⟨4, ![1, 1, 64, 1024]⟩
abbrev S4x64 : Shape := ⟨2, ![4, 64]⟩
abbrev S64x4 : Shape := ⟨2, ![64, 4]⟩
abbrev S1x256 : Shape := ⟨2, ![1, 256]⟩
abbrev S256x256 : Shape := ⟨2, ![256, 256]⟩
abbrev S1x255 : Shape := ⟨2, ![1, 255]⟩

abbrev nBuf : Space → Nat
  | .hbm => 29
  | .vmem => 22
  | .smem => 5
  | _ => 0

abbrev bufTy : (tb : Table) → Fin (tcTables nBuf tb) → BufTy
  | .hbm, ⟨0, _⟩ => ⟨S16x1024x1024x3, .f32⟩
  | .hbm, ⟨1, _⟩ => ⟨S16x1024x1024x1, .f32⟩
  | .hbm, ⟨2, _⟩ => ⟨S16x1024x1024, .f32⟩
  | .hbm, ⟨3, _⟩ => ⟨S16384x1024, .f32⟩
  | .hbm, ⟨4, _⟩ => ⟨S16x1024x1024x1, .f32⟩
  | .hbm, ⟨5, _⟩ => ⟨S16x1024x1024, .f32⟩
  | .hbm, ⟨6, _⟩ => ⟨S16384x1024, .f32⟩
  | .hbm, ⟨7, _⟩ => ⟨S16x1024x1024x1, .f32⟩
  | .hbm, ⟨8, _⟩ => ⟨S16x1024x1024, .f32⟩
  | .hbm, ⟨9, _⟩ => ⟨S16384x1024, .f32⟩
  | .hbm, ⟨10, _⟩ => ⟨S16384x1024, .f32⟩
  | .hbm, ⟨11, _⟩ => ⟨S1x1x256, .f32⟩
  | .hbm, ⟨12, _⟩ => ⟨S1x1x1, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S1x1x1, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S1x4x64x1024, .f32⟩
  | .hbm, ⟨23, _⟩ => ⟨S_, .f32⟩
  | .hbm, ⟨24, _⟩ => ⟨S4x64, .f32⟩
  | .hbm, ⟨25, _⟩ => ⟨S64x4, .f32⟩
  | .hbm, ⟨26, _⟩ => ⟨S1x256, .f32⟩
  | .hbm, ⟨27, _⟩ => ⟨S16384x1024, .f32⟩
  | .hbm, ⟨28, _⟩ => ⟨S16x1024x1024x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x256, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S1x4x64x1024, .f32⟩
  | .local _ .vmem, ⟨14, _⟩ => ⟨S64x128x1024, .i32⟩
  | .local _ .vmem, ⟨15, _⟩ => ⟨S128x1024, .i32⟩
  | .local _ .vmem, ⟨16, _⟩ => ⟨S128x1024, .i32⟩
  | .local _ .vmem, ⟨17, _⟩ => ⟨S1x256, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S16x1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9_0 : Ref sig .tc := ⟨.hbm, 10, rfl⟩
abbrev main_v9_1 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc1_stg0_0 : Ref sig .tc := ⟨.smem, 0, rfl⟩
abbrev cc1_stg1_0 : Ref sig .tc := ⟨.smem, 1, rfl⟩
abbrev cc2_stg0_0 : Ref sig .tc := ⟨.smem, 2, rfl⟩
abbrev cc2_stg1_0 : Ref sig .tc := ⟨.smem, 3, rfl⟩
abbrev cc2_scratch0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

@[reducible] def k1_t1_loop : Scf.Loop 32 :=
  let c0_i32_15 : BitVec 32 := 0#32
  let c64_i32 : BitVec 32 := 64#32
  let v42 : BitVec 32 := Scalar.addi c0_i32_15 c64_i32
  let c1_i32_16 : BitVec 32 := 1#32
  ⟨c0_i32_15, v42, c1_i32_16⟩
def k1_off1 (k1_t1 : Fin k1_t1_loop.trips) : Fin 3 → Nat :=
  let c0_i32_15 : BitVec 32 := 0#32
  let c1_i32_16 : BitVec 32 := 1#32
  let arg8 : BitVec 32 := Scf.iv c0_i32_15 c1_i32_16 k1_t1
  let v48 : Index := Scalar.indexCast arg8
  let c0_23 : Index := 0#32
  let c0_24 : Index := 0#32
  ![v48.toNat, 0, 0]
def k1_cond2 (i : grid1.Coords) : BitVec 1 :=
  let arg0 : BitVec 32 := BitVec.ofNat 32 (i 0).val
  let c127_i32 : BitVec 32 := 127#32
  let v43 : BitVec 1 := Scalar.cmpi .eq arg0 c127_i32
  let v44 : BitVec 32 := Scalar.extui v43
  let c0_i32_18 : BitVec 32 := 0#32
  let v45 : BitVec 1 := Scalar.cmpi .ne v44 c0_i32_18
  v45

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4x64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "w_blue" => some ((15300821 / 134217728 : ℝ) : EReal)
  | "w_green" => some ((4924113 / 8388608 : ℝ) : EReal)
  | "w_red" => some ((2507355 / 8388608 : ℝ) : EReal)
  | _ => none
-- ==== ReferenceIdeal.lean ====
abbrev S16x1024x1024x3 : Shape := ⟨4, ![16, 1024, 1024, 3]⟩
abbrev S3 : Shape := ⟨1, ![3]⟩
abbrev S16x1024x1024 : Shape := ⟨3, ![16, 1024, 1024]⟩
abbrev S16x1024x1024x1 : Shape := ⟨4, ![16, 1024, 1024, 1]⟩
abbrev S16777216 : Shape := ⟨1, ![16777216]⟩
abbrev S_ : Shape := ⟨0, ![]⟩
abbrev S256 : Shape := ⟨1, ![256]⟩
abbrev S16777216x1 : Shape := ⟨2, ![16777216, 1]⟩
abbrev S255 : Shape := ⟨1, ![255]⟩
abbrev S1 : Shape := ⟨1, ![1]⟩

abbrev nBuf : Space → Nat
  | .hbm => 100
  | .vmem => 0
  | .smem => 0
  | _ => 0

abbrev bufTy : (tb : Table) → Fin (tcTables nBuf tb) → BufTy
  | .hbm, ⟨0, _⟩ => ⟨S16x1024x1024x3, .f32⟩
  | .hbm, ⟨1, _⟩ => ⟨S3, .f32⟩
  | .hbm, ⟨2, _⟩ => ⟨S16x1024x1024, .f32⟩
  | .hbm, ⟨3, _⟩ => ⟨S16x1024x1024x1, .f32⟩
  | .hbm, ⟨4, _⟩ => ⟨S16777216, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16777216, .i32⟩
  | .hbm, ⟨21, _⟩ => ⟨S16777216, .i32⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S_, .f32⟩
  | .hbm, ⟨26, _⟩ => ⟨S256, .f32⟩
  | .hbm, ⟨27, _⟩ => ⟨S_, .i32⟩
  | .hbm, ⟨28, _⟩ => ⟨S16777216, .i32⟩
  | .hbm, ⟨29, _⟩ => ⟨S16777216, .i1⟩
  | .hbm, ⟨30, _⟩ => ⟨S_, .i32⟩
  | .hbm, ⟨31, _⟩ => ⟨S16777216, .i32⟩
  | .hbm, ⟨32, _⟩ => ⟨S16777216, .i32⟩
  | .hbm, ⟨33, _⟩ => ⟨S16777216, .i32⟩
  | .hbm, ⟨34, _⟩ => ⟨S16777216x1, .i32⟩
  | .hbm, ⟨35, _⟩ => ⟨S_, .f32⟩
  | .hbm, ⟨36, _⟩ => ⟨S16777216, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S255, .f32⟩
  | .hbm, ⟨73, _⟩ => ⟨S255, .f32⟩
  | .hbm, ⟨74, _⟩ => ⟨S255, .f32⟩
  | .hbm, ⟨75, _⟩ => ⟨S255, .f32⟩
  | .hbm, ⟨76, _⟩ => ⟨S255, .f32⟩
  | .hbm, ⟨77, _⟩ => ⟨S255, .f32⟩
  | .hbm, ⟨78, _⟩ => ⟨S255, .f32⟩
  | .hbm, ⟨79, _⟩ => ⟨S255, .f32⟩
  | .hbm, ⟨80, _⟩ => ⟨S255, .i32⟩
  | .hbm, ⟨81, _⟩ => ⟨S_, .f32⟩
  | .hbm, ⟨82, _⟩ => ⟨S_, .i32⟩
  | .hbm, ⟨83, _⟩ => ⟨S_, .f32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1, .f32⟩
  | .hbm, ⟨91, _⟩ => ⟨S_, .f32⟩
  | .hbm, ⟨92, _⟩ => ⟨S16x1024x1024x1, .f32⟩
  | .hbm, ⟨93, _⟩ => ⟨S16x1024x1024x1, .i1⟩
  | .hbm, ⟨94, _⟩ => ⟨S_, .f32⟩
  | .hbm, ⟨95, _⟩ => ⟨S_, .f32⟩
  | .hbm, ⟨96, _⟩ => ⟨S16x1024x1024x1, .f32⟩
  | .hbm, ⟨97, _⟩ => ⟨S16x1024x1024x1, .f32⟩
  | .hbm, ⟨98, _⟩ => ⟨S16x1024x1024x1, .f32⟩
  | .hbm, ⟨99, _⟩ => ⟨S16x1024x1024x1, .f32⟩
  | _, _ => ⟨S16x1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_call0_cst : Ref sig .tc := ⟨.hbm, 46, rfl⟩
abbrev main_call1_call0_v0 : Ref sig .tc := ⟨.hbm, 47, rfl⟩
abbrev main_v29 : Ref sig .tc := ⟨.hbm, 48, rfl⟩
abbrev main_v30 : Ref sig .tc := ⟨.hbm, 49, rfl⟩
abbrev main_call2_call0_cst : Ref sig .tc := ⟨.hbm, 50, rfl⟩
abbrev main_call2_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call3_call0_cst : Ref sig .tc := ⟨.hbm, 55, rfl⟩
abbrev main_call3_call0_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call4_call0_cst : Ref sig .tc := ⟨.hbm, 60, rfl⟩
abbrev main_call4_call0_v0 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call5_v0 : Ref sig .tc := ⟨.hbm, 80, rfl⟩
abbrev main_call5_cst : Ref sig .tc := ⟨.hbm, 81, rfl⟩
abbrev main_call5_c : Ref sig .tc := ⟨.hbm, 82, rfl⟩
abbrev main_call5_v1_0 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_cst_14 : Ref sig .tc := ⟨.hbm, 95, rfl⟩
abbrev main_call6_v0 : Ref sig .tc := ⟨.hbm, 96, rfl⟩
abbrev main_call6_v1 : Ref sig .tc := ⟨.hbm, 97, rfl⟩
abbrev main_v61 : Ref sig .tc := ⟨.hbm, 98, rfl⟩
abbrev main_v62 : Ref sig .tc := ⟨.hbm, 99, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.WritesUnit
public import Idealize.ShloMosaic.Lib.Ring
public import Idealize.ShloMosaic.Lib.Tactic
public import Idealize.ShloMosaic.Lib.WordCmp

/-! # The grayscale and range kernel's body at one grid point

One run of the body of the first call, with every buffer's contents afterwards named: the grayscale block, the
running column minimum and maximum, and at the last point the two halves of the range row. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is the grid's first one, as the first call's body tests it. -/
abbrev first0 (i : grid0.Coords) : Prop :=
  (Scalar.cmpi .ne (Scalar.extui (Scalar.cmpi .eq (BitVec.ofNat 32 (i 0).val) 0#32)) 0#32) = 1#1

/-- The point is the grid's last one, as the first call's body tests it. -/
abbrev last0 (i : grid0.Coords) : Prop := k0_cond2 i = 1#1

open Classical in
/-- The running column minimum after one point, from the three channel blocks and the minimum before it. -/
def minStep (i : grid0.Coords) (x0 x1 x2 : Vec F S512x1024 .f32) (y : Vec F S1x1024 .f32) : Vec F S1x1024 .f32 :=
  k0_pay7 x0 x1 x2 (if first0 i then k0_pay5 else y)

open Classical in
/-- The running column maximum after one point, from the three channel blocks and the maximum before it. -/
def maxStep (i : grid0.Coords) (x0 x1 x2 : Vec F S512x1024 .f32) (y : Vec F S1x1024 .f32) : Vec F S1x1024 .f32 :=
  k0_pay1 (k0_pay8 x0 x1 x2 (if first0 i then k0_pay6 else y))

/-- The position of a half-row at a lane, counted modulo its 128 lanes. -/
def lane (n : ℕ) : S1x1x128.Idx := fun a => match a with
  | ⟨0, _⟩ => (0 : Fin 1)
  | ⟨1, _⟩ => (0 : Fin 1)
  | ⟨2, _⟩ => (⟨n % 128, Nat.mod_lt _ (by decide)⟩ : Fin 128)

/-- A row of two half-rows: the left one below lane 128, the right one from there on. -/
def halves (l r : Vec F S1x1x128 .f32) : Vec F S1x1x256 .f32 := fun y =>
  if (y 2).val < 128 then l (lane (y 2).val)
  else r (lane (y 2).val)

/-- The range row: its left half holds the least entry of the minimum row, its right half the greatest entry of the
    maximum row. -/
def rangeRow (mn mx : Vec F S1x1024 .f32) : Vec F S1x1x256 .f32 := halves (k0_pay2 mn) (k0_pay3 mx)

/-- Two stores of half-rows, the right one last, leave the row of the two halves. -/
theorem read_halves {κ : Kind} {sp : Space} (v : View sig κ sp S1x1x256 .f32) (f : v.ty.Contents (Elt F))
    (l r : Vec F S1x1x128 .f32) (L : List (View.Piece (Elt F) S1x1x256 .f32)) :
    v.read (Elt F) (v.writes (Elt F) f
      (⟨Rect.unit (s := S1x1x256) ![0, 0, 128] S1x1x128.size inb_S1x1x256_S1x1x128_0_0_128, r⟩
        :: ⟨Rect.unit (s := S1x1x256) ![0, 0, 0] S1x1x128.size inb_S1x1x256_S1x1x128_0_0_0, l⟩ :: L)) = halves l r := by
  funext y
  have h2 : (y 2).val < 256 := (y 2).isLt
  have h1 : (y 1).val < 1 := (y 1).isLt
  have h0 : (y 0).val < 1 := (y 0).isLt
  unfold halves
  by_cases h : (y 2).val < 128
  · rw [if_pos h]
    refine (View.read_writes_cons_unit_of_not_mem v f _ _ _ y rfl 2 (Or.inl h)).trans ?_
    refine View.read_writes_cons_unit_of_mem v f _ l L y (lane (y 2).val) rfl fun a => ?_
    match a with
    | ⟨0, _⟩ => show (y 0).val = 0 + 0; omega
    | ⟨1, _⟩ => show (y 1).val = 0 + 0; omega
    | ⟨2, _⟩ => show (y 2).val = 0 + (y 2).val % 128; omega
  · rw [if_neg h]
    refine View.read_writes_cons_unit_of_mem v f _ r _ y (lane (y 2).val) rfl fun a => ?_
    match a with
    | ⟨0, _⟩ => show (y 0).val = 0 + 0; omega
    | ⟨1, _⟩ => show (y 1).val = 0 + 0; omega
    | ⟨2, _⟩ => show (y 2).val = 128 + (y 2).val % 128; omega

/-- A load of a whole memref that holds `x` reads `x`. -/
theorem load_held {κ : Kind} {sp : Space} {s : Shape} {e : EltTy} (v : View sig κ sp s e) (f : v.ty.Contents (Elt F))
    (x : Vec F s e) (h : v.read (Elt F) f = x) {off : Fin s.rank → ℕ} (inb : ∀ a, off a + s.size a ≤ s.size a) :
    v.readAt (Elt F) (Rect.unit off s.size inb).toLoadRect f = x :=
  (View.readAt_full v f inb).trans h

set_option maxHeartbeats 4000000 in
open Classical in
theorem run0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1x256 .f32) (harg5 : arg5.IsWhole) (arg6 : Memref sig .tc .vmem S1x1024 .f32) (harg6 : arg6.IsWhole) (arg7 : Memref sig .tc .vmem S1x1024 .f32) (harg7 : arg7.IsWhole)
    (hne : ¬(first0 i ∧ last0 i)) (x0 x1 x2 x3 : Vec F S512x1024 .f32) (x4 : Vec F S1x1x256 .f32) (s0 s1 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 x2)
            ∗ owns (c : Thread nD τ) arg5 fullShare (if last0 i then rangeRow (minStep i x0 x1 x2 s0) (maxStep i x0 x1 x2 s1) else x4)
            ∗ owns (c : Thread nD τ) arg6 fullShare (minStep i x0 x1 x2 s0) ∗ owns (c : Thread nD τ) arg7 fullShare (maxStep i x0 x1 x2 s1)) -∗ K ⟨⟩))
      ⊢ wp frame (wpE (defs₀ (F := F)) Variants.none c none) E (cc0_gray_minmax i arg1 harg1 arg2 harg2 arg3 harg3 arg4 harg4 arg5 harg5 arg6 harg6 arg7 harg7) K := by
  simp only [cc0_gray_minmax_eq_skeleton]; unfold cc0_gray_minmax_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, Hk⟩
  obtain rfl := harg1.eq_unread hf0; obtain rfl := harg2.eq_unread hf1; obtain rfl := harg3.eq_unread hf2
  obtain rfl := harg5.eq_unread hf4; obtain rfl := harg6.eq_unread hg0; obtain rfl := harg7.eq_unread hg1
  have e0 := load_held arg1.view _ x0 hf0 inb_S512x1024_S512x1024_0_0
  have e1 := load_held arg2.view _ x1 hf1 inb_S512x1024_S512x1024_0_0
  have e2 := load_held arg3.view _ x2 hf2 inb_S512x1024_S512x1024_0_0
  have e6 := load_held arg6.view _ s0 hg0 inb_S1x1024_S1x1024_0_0
  have e7 := load_held arg7.view _ s1 hg1 inb_S1x1024_S1x1024_0_0
  by_cases hc0 : first0 i
  · have hc1 : ¬last0 i := fun h => hne ⟨hc0, h⟩
    have hmn : minStep i x0 x1 x2 s0 = k0_pay7 x0 x1 x2 k0_pay5 := by unfold minStep; rw [if_pos hc0]
    have hmx : maxStep i x0 x1 x2 s1 = k0_pay1 (k0_pay8 x0 x1 x2 k0_pay6) := by unfold maxStep; rw [if_pos hc0]
    rw [if_neg hc1, hmn, hmx]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact View.read_writes_full _ _ _ _ _
    isplitl [H4]
    · iexists _; isplitr
      swap; · iexact H4
      ipureintro
      exact hf4
    isplitl [S0]
    · iexists _; isplitr
      swap; · iexact S0
      ipureintro
      exact (View.read_writes_full _ _ _ _ _).trans (congrArg (k0_pay7 x0 x1 x2) (View.readCov_full _ _ _ _ _))
    iexists _; isplitr
    swap; · iexact S1
    ipureintro
    exact (View.read_writes_full _ _ _ _ _).trans (congrArg (fun y => k0_pay1 (k0_pay8 x0 x1 x2 y)) (View.readCov_full _ _ _ _ _))
  by_cases hc1 : last0 i
  · have hmn : minStep i x0 x1 x2 s0 = k0_pay7 x0 x1 x2 s0 := by unfold minStep; rw [if_neg hc0]
    have hmx : maxStep i x0 x1 x2 s1 = k0_pay1 (k0_pay8 x0 x1 x2 s1) := by unfold maxStep; rw [if_neg hc0]
    rw [if_pos hc1, hmn, hmx]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact View.read_writes_full _ _ _ _ _
    isplitl [H4]
    · iexists _; isplitr
      swap; · iexact H4
      ipureintro
      exact (read_halves _ _ _ _ _).trans (congr (congrArg (fun y => halves (F := F) (k0_pay2 y)) (View.readCov_full _ _ _ _ _)) (congrArg k0_pay3 (View.readCov_full _ _ _ _ _)))
    isplitl [S0]
    · iexists _; isplitr
      swap; · iexact S0
      ipureintro
      exact View.read_writes_full _ _ _ _ _
    iexists _; isplitr
    swap; · iexact S1
    ipureintro
    exact View.read_writes_full _ _ _ _ _
  · have hmn : minStep i x0 x1 x2 s0 = k0_pay7 x0 x1 x2 s0 := by unfold minStep; rw [if_neg hc0]
    have hmx : maxStep i x0 x1 x2 s1 = k0_pay1 (k0_pay8 x0 x1 x2 s1) := by unfold maxStep; rw [if_neg hc0]
    rw [if_neg hc1, hmn, hmx]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact View.read_writes_full _ _ _ _ _
    isplitl [H4]
    · iexists _; isplitr
      swap; · iexact H4
      ipureintro
      exact hf4
    isplitl [S0]
    · iexists _; isplitr
      swap; · iexact S0
      ipureintro
      exact View.read_writes_full _ _ _ _ _
    iexists _; isplitr
    swap; · iexact S1
    ipureintro
    exact View.read_writes_full _ _ _ _ _

end Cert.KernelIdeal.Hand

end
-- ==== Proof.Region0.lean ====
module

public import proofs.«01_k».proof.Proof.Body0

/-! # The first call as a pipeline

What each of the grayscale call's buffers holds at every grid point, as the pipeline's proof data, and the body
obligation at every point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The first call's first point is point 0. -/
theorem first0_iff : ∀ t : Fin cfg0.N, first0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have h : first0 (grid0.coords t) ↔ t.val % 32 = 0 := by
      simp only [first0, e0]
      word_cmp
    rw [h]; omega
   : ∀ t : Fin grid0.N, first0 (grid0.coords t) ↔ t.val = 0)

/-- The first call's last point is point 31. -/
theorem last0_iff : ∀ t : Fin cfg0.N, last0 (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    have h : last0 (grid0.coords t) ↔ t.val % 32 = 31 := by
      simp only [last0, k0_cond2, e0]
      word_cmp
    rw [h]; omega
   : ∀ t : Fin grid0.N, last0 (grid0.coords t) ↔ t.val = 31)

section Data

variable (W : Dev nD → Valuation τ sig (Elt F)) (c : Dev nD)

/-- Window `w`'s block at point `t`, read off its array as the call finds it. -/
def blk0 (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The running column minimum after the first `n` points. -/
def minAt : ℕ → Vec F S1x1024 .f32
  | 0 => k0_pay5
  | n + 1 => if h : n < cfg0.N then minStep (grid0.coords ⟨n, h⟩) (blk0 W c 0 ⟨n, h⟩) (blk0 W c 1 ⟨n, h⟩) (blk0 W c 2 ⟨n, h⟩) (minAt n) else minAt n

/-- The running column maximum after the first `n` points. -/
def maxAt : ℕ → Vec F S1x1024 .f32
  | 0 => k0_pay6
  | n + 1 => if h : n < cfg0.N then maxStep (grid0.coords ⟨n, h⟩) (blk0 W c 0 ⟨n, h⟩) (blk0 W c 1 ⟨n, h⟩) (blk0 W c 2 ⟨n, h⟩) (maxAt n) else maxAt n

/-- One point's step of the running minimum, the first point's starting from anything. -/
theorem minStep_eq (t : Fin cfg0.N) (y : Vec F S1x1024 .f32) (h : t.val ≠ 0 → y = minAt W c t.val) :
    minStep (grid0.coords t) (blk0 W c 0 t) (blk0 W c 1 t) (blk0 W c 2 t) y = minAt W c (t.val + 1) := by
  have e : minAt W c (t.val + 1) = minStep (grid0.coords t) (blk0 W c 0 t) (blk0 W c 1 t) (blk0 W c 2 t) (minAt W c t.val) := by
    rw [minAt, dif_pos t.isLt]
  rw [e]
  by_cases h0 : t.val = 0
  · unfold minStep; rw [if_pos ((first0_iff t).2 h0), if_pos ((first0_iff t).2 h0)]
  · rw [h h0]

/-- One point's step of the running maximum, the first point's starting from anything. -/
theorem maxStep_eq (t : Fin cfg0.N) (y : Vec F S1x1024 .f32) (h : t.val ≠ 0 → y = maxAt W c t.val) :
    maxStep (grid0.coords t) (blk0 W c 0 t) (blk0 W c 1 t) (blk0 W c 2 t) y = maxAt W c (t.val + 1) := by
  have e : maxAt W c (t.val + 1) = maxStep (grid0.coords t) (blk0 W c 0 t) (blk0 W c 1 t) (blk0 W c 2 t) (maxAt W c t.val) := by
    rw [maxAt, dif_pos t.isLt]
  rw [e]
  by_cases h0 : t.val = 0
  · unfold maxStep; rw [if_pos ((first0_iff t).2 h0), if_pos ((first0_iff t).2 h0)]
  · rw [h h0]

/-- The first call's running minimum. -/
abbrev scr0_0 : Memref sig .tc .vmem S1x1024 .f32 := Memref.whole cc0_scratch0
/-- The first call's running maximum. -/
abbrev scr0_1 : Memref sig .tc .vmem S1x1024 .f32 := Memref.whole cc0_scratch1

/-- The buffers the first call neither stages nor accumulates in, each at some contents. -/
def others0 : sProp 𝕄 :=
  bigSepL [cc1_stg2_0, cc1_stg2_1, cc1_stg3_0, cc1_scratch0, cc1_scratch1, cc1_scratch2, cc2_stg2_0, cc2_stg3_0, cc2_stg3_1, cc2_stg4_0, cc2_stg4_1, cc1_stg0_0, cc1_stg1_0, cc2_stg0_0, cc2_stg1_0, cc2_scratch0]
    fun b => iprop(∃ f : Buf (Elt F) ((c : Thread nD τ).loc b), ((c : Thread nD τ).loc b) ↦{fullShare} f)

/-- The first call's own accumulators and the other buffers are its scoped rest. -/
theorem scoped0_eq : (Pipeline.scopedRest spec0 c : sProp 𝕄)
    = iprop((∃ d, owns (c : Thread nD τ) scr0_0 fullShare d) ∗ (∃ d, owns (c : Thread nD τ) scr0_1 fullShare d) ∗ others0 (F := F) c) := by
  rw [Pipeline.scopedRest_eq_of_list spec0 c [cc0_scratch0, cc0_scratch1, cc1_stg2_0, cc1_stg2_1, cc1_stg3_0, cc1_scratch0, cc1_scratch1, cc1_scratch2, cc2_stg2_0, cc2_stg3_0, cc2_stg3_1, cc2_stg4_0, cc2_stg4_1, cc1_stg0_0, cc1_stg1_0, cc2_stg0_0, cc2_stg1_0, cc2_scratch0] (by decide) (by decide)]
  simp only [scr0_0, scr0_1, owns_whole]
  rfl

/-- The invariant after `n` points: the accumulators at the running minimum and maximum — before the first point at
    anything —, the other buffers at anything. -/
def inv0 (n : ℕ) : sProp 𝕄 :=
  iprop((∃ s0 s1, ⌜n ≠ 0 → s0 = minAt W c n ∧ s1 = maxAt W c n⌝ ∗ owns (c : Thread nD τ) scr0_0 fullShare s0 ∗ owns (c : Thread nD τ) scr0_1 fullShare s1)
    ∗ others0 (F := F) c ∗ ∃ r, prngReg c r)

/-- The first call's proof data: the arrays as the call finds them; after the body at a point each input's buffer at its
    block, the gray buffer at the point's gray block, and the range buffer at the row of the running minimum and maximum. -/
def dat0 : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => k0_pay4 (blk0 W c 0 t) (blk0 W c 1 t) (blk0 W c 2 t)
    | ⟨4, _⟩ => rangeRow (minAt W c (t.val + 1)) (maxAt W c (t.val + 1))
  Φ t := inv0 W c t.val
  q _ := fullShare
  owed _ := 0

/-- The arrays are those the call finds. -/
theorem dat0_A (w : Fin cfg0.W) : (dat0 W c).A w = W c (Proc.devRef .tc (Pipeline.arrRef spec0 w)) := by
  dsimp only [dat0]

/-- What window 0's buffer holds after the body at a point. -/
theorem dat0_after_0 (t : Fin cfg0.N) : (dat0 W c).after 0 t = blk0 W c 0 t := by dsimp only [dat0]
/-- What window 1's buffer holds after the body at a point. -/
theorem dat0_after_1 (t : Fin cfg0.N) : (dat0 W c).after 1 t = blk0 W c 1 t := by dsimp only [dat0]
/-- What window 2's buffer holds after the body at a point. -/
theorem dat0_after_2 (t : Fin cfg0.N) : (dat0 W c).after 2 t = blk0 W c 2 t := by dsimp only [dat0]
/-- What window 3's buffer holds after the body at a point. -/
theorem dat0_after_3 (t : Fin cfg0.N) : (dat0 W c).after 3 t = k0_pay4 (blk0 W c 0 t) (blk0 W c 1 t) (blk0 W c 2 t) := by dsimp only [dat0]
/-- What window 4's buffer holds after the body at a point. -/
theorem dat0_after_4 (t : Fin cfg0.N) : (dat0 W c).after 4 t = rangeRow (minAt W c (t.val + 1)) (maxAt W c (t.val + 1)) := by dsimp only [dat0]

/-- Every input's staging buffer holds its block at every point. -/
theorem before0_0 (t : Fin cfg0.N) (d) : (dat0 W c).before 0 t d = blk0 W c 0 t :=
  ((dat0 W c).before_in_eq_fetched 0 rfl (fun _ => rfl) (fun _ _ _ => rfl) (fun t => by rw [dat0_after_0]; unfold Dat.blockOf blk0; rw [dat0_A]; try rfl) t d).trans
    (by unfold Dat.fetched Dat.blockOf blk0; rw [dat0_A]; try rfl)
/-- Window 1's buffer holds its block before the body at every point. -/
theorem before0_1 (t : Fin cfg0.N) (d) : (dat0 W c).before 1 t d = blk0 W c 1 t :=
  ((dat0 W c).before_in_eq_fetched 1 rfl (fun _ => rfl) (fun _ _ _ => rfl) (fun t => by rw [dat0_after_1]; unfold Dat.blockOf blk0; rw [dat0_A]; try rfl) t d).trans
    (by unfold Dat.fetched Dat.blockOf blk0; rw [dat0_A]; try rfl)
/-- Window 2's buffer holds its block before the body at every point. -/
theorem before0_2 (t : Fin cfg0.N) (d) : (dat0 W c).before 2 t d = blk0 W c 2 t :=
  ((dat0 W c).before_in_eq_fetched 2 rfl (fun _ => rfl) (fun _ _ _ => rfl) (fun t => by rw [dat0_after_2]; unfold Dat.blockOf blk0; rw [dat0_A]; try rfl) t d).trans
    (by unfold Dat.fetched Dat.blockOf blk0; rw [dat0_A]; try rfl)

/-- The range buffer is idle at every point but the last. -/
theorem idle0_4 (t : Fin cfg0.N) (h : ¬last0 (grid0.coords t)) : cfg0.idle 4 (cfg0.grid.coords t) = true := by
  show (!(k0_cond2 (grid0.coords t) == 1#1)) = true
  simpa using h

/-- At the last point it is written. -/
theorem live0_4 (t : Fin cfg0.N) (h : last0 (grid0.coords t)) : cfg0.idle 4 (cfg0.grid.coords t) = false := by
  show (!(k0_cond2 (grid0.coords t) == 1#1)) = false
  simpa using h

/-- What the body is called with at a point, -/
def pre0 (t : Fin cfg0.N) : sProp 𝕄 :=
  iprop((dat0 W c).Φ t.castSucc ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d))
    ∗ (∃ d, owns (c : Thread nD τ) (win0_3.stage (cfg0.slots t 3)) fullShare ((dat0 W c).before 3 t d))
    ∗ (∃ d, owns (c : Thread nD τ) (win0_4.stage (cfg0.slots t 4)) fullShare ((dat0 W c).before 4 t d)))

/-- and what it returns. -/
def post0 (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t
    ∗ (dat0 W c).leavesExact 3 t ∗ (dat0 W c).leavesExact 4 t)

/-- What the range buffer is left at: the row at the last point, what it held at the others. -/
theorem leaves0_4 (t : Fin cfg0.N) (d) :
    iprop(owns (c : Thread nD τ) (win0_4.stage (cfg0.slots t 4)) fullShare
      (open Classical in if last0 (grid0.coords t) then rangeRow (minAt W c (t.val + 1)) (maxAt W c (t.val + 1)) else (dat0 W c).before 4 t d))
      ⊢ ((dat0 W c).leavesExact 4 t : sProp 𝕄) := by
  by_cases h : last0 (grid0.coords t)
  · rw [if_pos h, show (dat0 W c).leavesExact 4 t = owns (c : Thread nD τ) (win0_4.stage (cfg0.slots t 4)) fullShare ((dat0 W c).after 4 t) from by
      unfold Dat.leavesExact; rw [live0_4 t h], dat0_after_4]
  · have hf : (cfg0.win 4).flush t = false := by
      rw [Bool.eq_false_iff]; intro hf
      have h31 := (flush0_4 t).1 hf
      have ht : t.val < 32 := Nat.lt_of_lt_of_eq t.isLt N_0
      exact h ((last0_iff t).2 (by omega))
    rw [if_neg h, (dat0 W c).leavesExact_idle 4 t (idle0_4 t h) hf]
    iintro H; iexists d; iexact H

set_option maxHeartbeats 1600000 in
/-- The body at any point takes what the pipeline hands it to what the pipeline expects. -/
theorem sound0 (t : Fin cfg0.N) :
    pre0 W c t ⊢ wp frame (wpE (defs₀ (F := F)) Variants.none c none) Set.univ (bodyAt0 t) (fun _ => post0 W c t) := by
  unfold pre0 post0 bodyAt0
  simp only [before0_0, before0_1, before0_2]
  rw [show (dat0 W c).owesAt () t.succ = (dat0 W c).owesAt () t.castSucc from rfl]
  rw [show (dat0 W c).Φ t.castSucc = inv0 W c t.val from rfl, show (dat0 W c).Φ t.succ = inv0 W c (t.val + 1) from rfl]
  rw [show (dat0 W c).leavesExact 0 t = owns (c : Thread nD τ) (win0_0.stage (cfg0.slots t 0)) fullShare ((dat0 W c).after 0 t) from rfl, dat0_after_0]
  rw [show (dat0 W c).leavesExact 1 t = owns (c : Thread nD τ) (win0_1.stage (cfg0.slots t 1)) fullShare ((dat0 W c).after 1 t) from rfl, dat0_after_1]
  rw [show (dat0 W c).leavesExact 2 t = owns (c : Thread nD τ) (win0_2.stage (cfg0.slots t 2)) fullShare ((dat0 W c).after 2 t) from rfl, dat0_after_2]
  rw [show (dat0 W c).leavesExact 3 t = owns (c : Thread nD τ) (win0_3.stage (cfg0.slots t 3)) fullShare ((dat0 W c).after 3 t) from rfl, dat0_after_3]
  have hN : t.val < 32 := Nat.lt_of_lt_of_eq t.isLt N_0
  have hne : ¬(first0 (grid0.coords t) ∧ last0 (grid0.coords t)) := fun h => by
    have h0 := (first0_iff t).1 h.1; have h1 := (last0_iff t).1 h.2; omega
  unfold inv0
  iintro ⟨⟨⟨%s0, %s1, %hs, S0, S1⟩, Hr, Hg⟩, Ho, ⟨%d0, H0⟩, ⟨%d1, H1⟩, ⟨%d2, H2⟩, ⟨%d3, H3⟩, ⟨%d4, H4⟩⟩
  have hmn := minStep_eq W c t s0 fun h => (hs h).1
  have hmx := maxStep_eq W c t s1 fun h => (hs h).2
  iapply (run0 c (grid0.coords t) _ _ _ _ _ _ _ _ _ _ _ _ _ _ hne (blk0 W c 0 t) (blk0 W c 1 t) (blk0 W c 2 t) ((dat0 W c).before 3 t d3) ((dat0 W c).before 4 t d4) s0 s1)
  isplitl [H0]; · iexact H0
  isplitl [H1]; · iexact H1
  isplitl [H2]; · iexact H2
  isplitl [H3]; · iexact H3
  isplitl [H4]; · iexact H4
  isplitl [S0]; · iexact S0
  isplitl [S1]; · iexact S1
  rw [hmn, hmx]
  iintro ⟨H0, H1, H2, H3, H4, S0, S1⟩
  isplitl [S0 S1 Hr Hg]
  · isplitl [S0 S1]
    · iexists _; iexists _; isplitr
      swap
      · isplitl [S0]; · iexact S0
        iexact S1
      ipureintro; exact fun _ => ⟨rfl, rfl⟩
    isplitl [Hr]; · iexact Hr
    iexact Hg
  isplitl [Ho]; · iexact Ho
  isplitl [H0]; · iexact H0
  isplitl [H1]; · iexact H1
  isplitl [H2]; · iexact H2
  isplitl [H3]; · iexact H3
  iapply (leaves0_4 W c t d4)
  iexact H4

/-- The body the pipeline calls at a point's slots is the first call's body there. -/
theorem row0 (t : Fin cfg0.N) :
    defs₀ (F := F) .tc cfg0.body (cfg0.bodyArgs t (cfg0.slots t)) = bodyAt0 t := by
  unfold defs₀; rw [Defs.onTc_tc]

/-- The pipeline's body obligation for the first call. -/
theorem obligation0 : BodyObligation (dat0 W c) (defs₀ (F := F)) Variants.none () Set.univ := fun t => by
  rw [bigSep_W0, bigSep_W0, row0]
  exact triple_restated (sound0 W c t) rfl .rfl fun _ => .rfl

/-- What the launch hands the call is the invariant before the first point, -/
theorem enter0 : iprop(Pipeline.scopedRest spec0 c ∗ ∃ r, prngReg c r) ⊢ ((dat0 W c).Φ 0 : sProp 𝕄) := by
  rw [show (dat0 W c).Φ 0 = inv0 W c 0 from rfl, scoped0_eq]
  unfold inv0
  iintro ⟨⟨⟨%s0, S0⟩, ⟨%s1, S1⟩, Hr⟩, Hg⟩
  isplitl [S0 S1]
  · iexists s0; iexists s1; isplitr
    · ipureintro; exact fun h => absurd rfl h
    isplitl [S0]; · iexact S0
    iexact S1
  isplitl [Hr]; · iexact Hr
  iexact Hg

/-- and the invariant after the last point gives it back. -/
theorem leave0 : ((dat0 W c).Φ (Fin.last cfg0.N) : sProp 𝕄) ⊢ iprop(Pipeline.scopedRest spec0 c ∗ ∃ r, prngReg c r) := by
  rw [show (dat0 W c).Φ (Fin.last cfg0.N) = inv0 W c cfg0.N from rfl, scoped0_eq]
  unfold inv0
  iintro ⟨⟨%s0, %s1, %hs, S0, S1⟩, Hr, Hg⟩
  isplitl [S0 S1 Hr]
  · isplitl [S0]; · iexists _; iexact S0
    isplitl [S1]; · iexists _; iexact S1
    iexact Hr
  iexact Hg

end Data

end Cert.KernelIdeal.Hand

end
-- ==== Proof.HistLoop.lean ====
module

public import proofs.«01_k».proof.Proof.Body0

/-! # The histogram kernel's counted loop

The loop runs through the 64 slabs of the packed accumulator; trip `k` adds to slab `k`, where a pixel's slab number is
`k`, the pixel's weight. What the accumulator holds before each trip is stated here in closed form. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop makes 64 trips. -/
theorem trips_eq : k1_t1_loop.trips = 64 := by decide +kernel

/-- Trip `k` works on the slab that starts at row `k` of the first axis. -/
theorem off1_eq (k : Fin k1_t1_loop.trips) : k1_off1 k = ![k.val, 0, 0] := by
  have h : ∀ k : Fin k1_t1_loop.trips, k1_off1 k 0 = k.val := by decide +kernel
  funext a
  match a with
  | ⟨0, _⟩ => exact h k
  | ⟨1, _⟩ => rfl
  | ⟨2, _⟩ => rfl

/-- The trip that works on the slab an accumulator position lies in. -/
def tripOf (y : S64x128x1024.Idx) : Fin k1_t1_loop.trips := ⟨(y 0).val, trips_eq ▸ (y 0).isLt⟩

/-- An accumulator position, seen within its slab. -/
def inSlab (y : S64x128x1024.Idx) : S1x128x1024.Idx := fun a => match a with
  | ⟨0, _⟩ => (0 : Fin 1)
  | ⟨1, _⟩ => (y 1 : Fin 128)
  | ⟨2, _⟩ => (y 2 : Fin 1024)

/-- The accumulator position of a slab's position. -/
def ofSlab (k : Fin k1_t1_loop.trips) (z : S1x128x1024.Idx) : S64x128x1024.Idx := fun a => match a with
  | ⟨0, _⟩ => (⟨k.val, trips_eq ▸ k.isLt⟩ : Fin 64)
  | ⟨1, _⟩ => (z 1 : Fin 128)
  | ⟨2, _⟩ => (z 2 : Fin 1024)

/-- Slab `k` of an accumulator. -/
def slab (A : Vec F S64x128x1024 .i32) (k : Fin k1_t1_loop.trips) : Vec F S1x128x1024 .i32 := fun z => A (ofSlab k z)

/-- The accumulator after all trips, from the slab numbers `q`, the weights `b` and the accumulator before them. -/
def bump (q b : Vec F S128x1024 .i32) (A : Vec F S64x128x1024 .i32) : Vec F S64x128x1024 .i32 := fun y =>
  k1_pay3 (F := F) (tripOf y) q b (slab A (tripOf y)) (inSlab y)

/-- The accumulator before trip `k`: the slabs below `k` are done, the others untouched. -/
def bumpTo (k : ℕ) (q b : Vec F S128x1024 .i32) (A : Vec F S64x128x1024 .i32) : Vec F S64x128x1024 .i32 := fun y =>
  if (y 0).val < k then bump q b A y else A y

/-- No slab is updated yet. -/
theorem bumpTo_zero (q b : Vec F S128x1024 .i32) (A : Vec F S64x128x1024 .i32) : bumpTo 0 q b A = A :=
  funext fun y => if_neg (Nat.not_lt_zero _)

/-- All 64 slabs are updated. -/
theorem bumpTo_all (q b : Vec F S128x1024 .i32) (A : Vec F S64x128x1024 .i32) : bumpTo 64 q b A = bump q b A :=
  funext fun y => if_pos (y 0).isLt

/-- A load of slab `k` before trip `k` reads the accumulator's slab as it was before the loop. -/
theorem load_slab {κ : Kind} {sp : Space} (v : View sig κ sp S64x128x1024 .i32) (f : v.ty.Contents (Elt F))
    (q b : Vec F S128x1024 .i32) (A : Vec F S64x128x1024 .i32) (k : Fin k1_t1_loop.trips)
    (h : v.read (Elt F) f = bumpTo k.val q b A) :
    v.readAt (Elt F) (Rect.unit (s := S64x128x1024) (k1_off1 k) S1x128x1024.size (k1_off1_inb k)).toLoadRect f = slab A k := by
  have h0 : k1_off1 k 0 = k.val := congrFun (off1_eq k) 0
  have h1 : k1_off1 k 1 = 0 := congrFun (off1_eq k) 1
  have h2 : k1_off1 k 2 = 0 := congrFun (off1_eq k) 2
  funext z
  have e : (Rect.unit (s := S64x128x1024) (k1_off1 k) S1x128x1024.size (k1_off1_inb k)).emb z = ofSlab k z := by
    have hz : (z 0).val < 1 := (z 0).isLt
    funext a
    apply Fin.ext
    match a with
    | ⟨0, _⟩ => show k1_off1 k 0 + 1 * (z 0).val = k.val; omega
    | ⟨1, _⟩ => show k1_off1 k 1 + 1 * (z 1).val = (z 1).val; omega
    | ⟨2, _⟩ => show k1_off1 k 2 + 1 * (z 2).val = (z 2).val; omega
  have e1 : v.readAt (Elt F) (Rect.unit (s := S64x128x1024) (k1_off1 k) S1x128x1024.size (k1_off1_inb k)).toLoadRect f z
      = v.read (Elt F) f ((Rect.unit (s := S64x128x1024) (k1_off1 k) S1x128x1024.size (k1_off1_inb k)).emb z) := rfl
  rw [e1, e, h]
  exact if_neg (Nat.lt_irrefl k.val)

/-- Storing trip `k`'s payload at slab `k` takes the accumulator before trip `k` to the one before trip `k + 1`. -/
theorem store_slab {κ : Kind} {sp : Space} (v : View sig κ sp S64x128x1024 .i32) (f : v.ty.Contents (Elt F))
    (q b : Vec F S128x1024 .i32) (A : Vec F S64x128x1024 .i32) (k : Fin k1_t1_loop.trips)
    (h : v.read (Elt F) f = bumpTo k.val q b A) :
    v.read (Elt F) (v.writes (Elt F) f
      [⟨Rect.unit (s := S64x128x1024) (k1_off1 k) S1x128x1024.size (k1_off1_inb k), k1_pay3 (F := F) k q b (slab A k)⟩])
      = bumpTo (k.val + 1) q b A := by
  funext y
  by_cases hk : (y 0).val = k.val
  · have e : tripOf y = k := Fin.ext hk
    refine (View.read_writes_cons_unit_of_mem v f (k1_off1_inb k) _ _ y (inSlab y) (off1_eq k) fun a => ?_).trans ?_
    · match a with
      | ⟨0, _⟩ => show (y 0).val = k.val + 0; omega
      | ⟨1, _⟩ => show (y 1).val = 0 + (y 1).val; omega
      | ⟨2, _⟩ => show (y 2).val = 0 + (y 2).val; omega
    · unfold bumpTo bump
      rw [if_pos (by omega), e]
  · refine (View.read_writes_cons_unit_of_not_mem v f (k1_off1_inb k) _ _ y (off1_eq k) 0 ?_).trans ?_
    · show (y 0).val < k.val ∨ k.val + 1 ≤ (y 0).val; omega
    · rw [View.writes_nil, h]
      unfold bumpTo
      by_cases hl : (y 0).val < k.val
      · rw [if_pos hl, if_pos (by omega)]
      · rw [if_neg hl, if_neg (by omega)]

/-- The contents of the accumulator's buffer before trip `k`. -/
def accAt (m : Memref sig .tc .vmem S64x128x1024 .i32) (h : m.IsWhole) (q b : Vec F S128x1024 .i32)
    (G : BufTy.Contents (Elt F) m.view.ty) : ℕ → BufTy.Contents (Elt F) m.view.ty
  | 0 => G
  | k + 1 => h.unread (bumpTo (k + 1) q b (m.view.read (Elt F) G))

/-- The accumulator's buffer, written up to a slab, read as a whole. -/
theorem read_accAt (m : Memref sig .tc .vmem S64x128x1024 .i32) (h : m.IsWhole) (q b : Vec F S128x1024 .i32)
    (G : BufTy.Contents (Elt F) m.view.ty) (k : ℕ) :
    m.view.read (Elt F) (accAt m h q b G k) = bumpTo k q b (m.view.read (Elt F) G) := by
  cases k with
  | zero => exact (bumpTo_zero _ _ _).symm
  | succ k => exact h.read_unread _

/-- After the last trip the accumulator's buffer reads the bumped accumulator. -/
theorem read_accAt_trips (m : Memref sig .tc .vmem S64x128x1024 .i32) (h : m.IsWhole) (q b : Vec F S128x1024 .i32)
    (G : BufTy.Contents (Elt F) m.view.ty) :
    m.view.read (Elt F) (accAt m h q b G k1_t1_loop.trips) = bump q b (m.view.read (Elt F) G) := by
  rw [read_accAt, trips_eq, bumpTo_all]

set_option maxHeartbeats 1000000 in
set_option warn.classDefReducibility false in
/-- The loop's invariant: the slab numbers and weights stay, the accumulator's buffer holds what `accAt` says. -/
@[sl_loop] def histInv (𝒱 : Variants) (c : Dev nD) (bd : Option 𝒱.V) (E : Set ℕ) (i : grid1.Coords) (arg1 : Memref sig .tc .smem S1x1 .f32) (harg1 : arg1.IsWhole) (arg2 : Memref sig .tc .smem S1x1 .f32) (harg2 : arg2.IsWhole) (arg3 : Memref sig .tc .vmem S128x1024 .f32) (harg3 : arg3.IsWhole) (arg4 : Memref sig .tc .vmem S1x4x64x1024 .f32) (harg4 : arg4.IsWhole) (arg5 : Memref sig .tc .vmem S64x128x1024 .i32) (harg5 : arg5.IsWhole) (arg6 : Memref sig .tc .vmem S128x1024 .i32) (harg6 : arg6.IsWhole) (arg7 : Memref sig .tc .vmem S128x1024 .i32) (harg7 : arg7.IsWhole)
    (X6 : BufTy.Contents (Elt F) arg6.view.ty) (X7 : BufTy.Contents (Elt F) arg7.view.ty) (G : BufTy.Contents (Elt F) arg5.view.ty) :
    Idealize.ShloMosaic.LoopInv (M := 𝕄) Idealize.ShloMosaic.frame (wpE (defs₀ (F := F)) 𝒱 (c : Thread nD τ) bd) E
      k1_t1_loop.lb k1_t1_loop.ub k1_t1_loop.st k1_t1_ok () (k1_t1_body (F := F) i arg1 harg1 arg2 harg2 arg3 harg3 arg4 harg4 arg5 harg5 arg6 harg6 arg7 harg7) where
  inv k _ := iprop((arg6.view.loc (c : Thread nD τ) ↦[arg6.view.set]{fullShare} X6) ∗ (arg7.view.loc (c : Thread nD τ) ↦[arg7.view.set]{fullShare} X7)
    ∗ (∃ f, (arg5.view.loc (c : Thread nD τ) ↦[arg5.view.set]{fullShare} f) ∗ ⌜f = accAt arg5 harg5 (arg6.view.read (Elt F) X6) (arg7.view.read (Elt F) X7) G k⌝))
  step k acc := by
    have hk : k.val < 64 := Nat.lt_of_lt_of_le k.isLt k1_t1_abs.2.1
    iintro ⟨H6, H7, ⟨%f, H5, %hf⟩⟩
    have hf' := (congrArg (arg5.view.read (Elt F)) hf).trans (read_accAt arg5 harg5 _ _ G k.val)
    have e5 := load_slab arg5.view f _ _ _ k hf'
    have e6 := load_held arg6.view X6 _ rfl inb_S128x1024_S128x1024_0_0
    have e7 := load_held arg7.view X7 _ rfl inb_S128x1024_S128x1024_0_0
    unfold k1_t1_body
    sl_exec
    sl_step
    isplitl [H6]; · iexact H6
    isplitl [H7]; · iexact H7
    iexists _; isplitl [H5]; · iexact H5
    ipureintro
    refine (harg5.eq_unread (store_slab arg5.view f _ _ _ k hf')).trans ?_
    rfl

end Cert.KernelIdeal.Hand

end
-- ==== Proof.Body1.lean ====
module

public import proofs.«01_k».proof.Proof.HistLoop

/-! # The histogram kernel's body at one grid point

One run of the body of the second call, with every buffer's contents afterwards named: the slab numbers and weights of
the block's pixels, the packed accumulator, and at the last point the four unpacked byte planes. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is the grid's first one, as the second call's body tests it. -/
abbrev first1 (i : grid1.Coords) : Prop :=
  (Scalar.cmpi .ne (Scalar.extui (Scalar.cmpi .eq (BitVec.ofNat 32 (i 0).val) 0#32)) 0#32) = 1#1

/-- The point is the grid's last one, as the second call's body tests it. -/
abbrev last1 (i : grid1.Coords) : Prop := k1_cond2 i = 1#1

/-- The one entry of a 1 by 1 array. -/
def only (x : Vec F S1x1 .f32) : Elt F .f32 := x (Shape.Idx.first (numel1_S1x1.symm ▸ Nat.one_pos))

/-- The slab numbers of a block's pixels, from the range's two ends. -/
def slabNo (x0 x1 : Vec F S1x1 .f32) (x2 : Vec F S128x1024 .f32) : Vec F S128x1024 .i32 :=
  k1_pay1 (k1_pay11 (only x0) (only x1) x2)

/-- The weights of a block's pixels, from the range's two ends. -/
def weightNo (x0 x1 : Vec F S1x1 .f32) (x2 : Vec F S128x1024 .f32) : Vec F S128x1024 .i32 :=
  k1_pay2 (k1_pay12 (only x0) (only x1) x2)

open Classical in
/-- The packed accumulator after one point, from the range's ends, the block and the accumulator before it. -/
def accStep (i : grid1.Coords) (x0 x1 : Vec F S1x1 .f32) (x2 : Vec F S128x1024 .f32) (A : Vec F S64x128x1024 .i32) :
    Vec F S64x128x1024 .i32 :=
  bump (slabNo x0 x1 x2) (weightNo x0 x1 x2) (if first1 i then k1_pay9 else A)

/-- A position of the plane array, seen within its plane. -/
def inPlane (y : S1x4x64x1024.Idx) : S1x1x64x1024.Idx := fun a => match a with
  | ⟨0, _⟩ => (0 : Fin 1)
  | ⟨1, _⟩ => (0 : Fin 1)
  | ⟨2, _⟩ => (y 2 : Fin 64)
  | ⟨3, _⟩ => (y 3 : Fin 1024)

/-- The four unpacked byte planes of an accumulator. -/
def planes (A : Vec F S64x128x1024 .i32) : Vec F S1x4x64x1024 .f32 := fun y =>
  if (y 1).val = 0 then k1_pay6 A (inPlane y) else if (y 1).val = 1 then k1_pay7 A (inPlane y)
  else if (y 1).val = 2 then k1_pay4 (k1_pay8 A) (inPlane y) else k1_pay5 A (inPlane y)

/-- Four stores of planes, one over the other, leave the four planes. -/
theorem read_planes {κ : Kind} {sp : Space} (v : View sig κ sp S1x4x64x1024 .f32) (f : v.ty.Contents (Elt F))
    (p0 p1 p2 p3 : Vec F S1x1x64x1024 .f32) :
    v.read (Elt F) (v.writes (Elt F) f
      [⟨Rect.unit (s := S1x4x64x1024) ![0, 3, 0, 0] S1x1x64x1024.size inb_S1x4x64x1024_S1x1x64x1024_0_3_0_0, p3⟩,
       ⟨Rect.unit (s := S1x4x64x1024) ![0, 2, 0, 0] S1x1x64x1024.size inb_S1x4x64x1024_S1x1x64x1024_0_2_0_0, p2⟩,
       ⟨Rect.unit (s := S1x4x64x1024) ![0, 1, 0, 0] S1x1x64x1024.size inb_S1x4x64x1024_S1x1x64x1024_0_1_0_0, p1⟩,
       ⟨Rect.unit (s := S1x4x64x1024) ![0, 0, 0, 0] S1x1x64x1024.size inb_S1x4x64x1024_S1x1x64x1024_0_0_0_0, p0⟩])
      = fun y => if (y 1).val = 0 then p0 (inPlane y) else if (y 1).val = 1 then p1 (inPlane y)
        else if (y 1).val = 2 then p2 (inPlane y) else p3 (inPlane y) := by
  funext y
  have h0 : (y 0).val < 1 := (y 0).isLt
  have h1 : (y 1).val < 4 := (y 1).isLt
  have hit : ∀ n : ℕ, (y 1).val = n → ∀ a, (y a).val = (![0, n, 0, 0] : Fin 4 → ℕ) a + (inPlane y a).val := fun n hn a => by
    match a with
    | ⟨0, _⟩ => show (y 0).val = 0 + 0; omega
    | ⟨1, _⟩ => show (y 1).val = n + 0; omega
    | ⟨2, _⟩ => show (y 2).val = 0 + (y 2).val; omega
    | ⟨3, _⟩ => show (y 3).val = 0 + (y 3).val; omega
  by_cases e0 : (y 1).val = 0
  · rw [if_pos e0]
    refine (View.read_writes_cons_unit_of_not_mem v f _ _ _ y rfl 1 (Or.inl (show (y 1).val < 3 by omega))).trans ?_
    refine (View.read_writes_cons_unit_of_not_mem v f _ _ _ y rfl 1 (Or.inl (show (y 1).val < 2 by omega))).trans ?_
    refine (View.read_writes_cons_unit_of_not_mem v f _ _ _ y rfl 1 (Or.inl (show (y 1).val < 1 by omega))).trans ?_
    exact View.read_writes_cons_unit_of_mem v f _ p0 _ y (inPlane y) rfl (hit 0 e0)
  rw [if_neg e0]
  by_cases e1 : (y 1).val = 1
  · rw [if_pos e1]
    refine (View.read_writes_cons_unit_of_not_mem v f _ _ _ y rfl 1 (Or.inl (show (y 1).val < 3 by omega))).trans ?_
    refine (View.read_writes_cons_unit_of_not_mem v f _ _ _ y rfl 1 (Or.inl (show (y 1).val < 2 by omega))).trans ?_
    exact View.read_writes_cons_unit_of_mem v f _ p1 _ y (inPlane y) rfl (hit 1 e1)
  rw [if_neg e1]
  by_cases e2 : (y 1).val = 2
  · rw [if_pos e2]
    refine (View.read_writes_cons_unit_of_not_mem v f _ _ _ y rfl 1 (Or.inl (show (y 1).val < 3 by omega))).trans ?_
    exact View.read_writes_cons_unit_of_mem v f _ p2 _ y (inPlane y) rfl (hit 2 e2)
  rw [if_neg e2]
  exact View.read_writes_cons_unit_of_mem v f _ p3 _ y (inPlane y) rfl (hit 3 (by omega))

/-- Four stores of the planes of one accumulator leave its four planes. -/
theorem read_planes_of {κ : Kind} {sp : Space} (v : View sig κ sp S1x4x64x1024 .f32) (f : v.ty.Contents (Elt F))
    {A0 A1 A2 A3 A : Vec F S64x128x1024 .i32} (h0 : A0 = A) (h1 : A1 = A) (h2 : A2 = A) (h3 : A3 = A) :
    v.read (Elt F) (v.writes (Elt F) f
      [⟨Rect.unit (s := S1x4x64x1024) ![0, 3, 0, 0] S1x1x64x1024.size inb_S1x4x64x1024_S1x1x64x1024_0_3_0_0, k1_pay5 A3⟩,
       ⟨Rect.unit (s := S1x4x64x1024) ![0, 2, 0, 0] S1x1x64x1024.size inb_S1x4x64x1024_S1x1x64x1024_0_2_0_0, k1_pay4 (k1_pay8 A2)⟩,
       ⟨Rect.unit (s := S1x4x64x1024) ![0, 1, 0, 0] S1x1x64x1024.size inb_S1x4x64x1024_S1x1x64x1024_0_1_0_0, k1_pay7 A1⟩,
       ⟨Rect.unit (s := S1x4x64x1024) ![0, 0, 0, 0] S1x1x64x1024.size inb_S1x4x64x1024_S1x1x64x1024_0_0_0_0, k1_pay6 A0⟩])
      = planes A := by
  subst h0; subst h1; subst h2; subst h3
  exact read_planes v f _ _ _ _

/-- Equal slab numbers, weights and accumulators bump to equal accumulators. -/
theorem bump_congr {q q' b b' : Vec F S128x1024 .i32} {A A' : Vec F S64x128x1024 .i32} (hq : q = q') (hb : b = b') (hA : A = A') :
    bump q b A = bump q' b' A' := by subst hq; subst hb; subst hA; rfl

/-- A load of the whole accumulator after the last trip reads the bumped accumulator. -/
theorem load_accAt (m : Memref sig .tc .vmem S64x128x1024 .i32) (h : m.IsWhole) {q q' b b' : Vec F S128x1024 .i32}
    {G : BufTy.Contents (Elt F) m.view.ty} {A : Vec F S64x128x1024 .i32} (hq : q = q') (hb : b = b') (hG : m.view.read (Elt F) G = A)
    {off : Fin 3 → ℕ} (inb : ∀ a, off a + S64x128x1024.size a ≤ S64x128x1024.size a) :
    m.view.readAt (Elt F) (Rect.unit (s := S64x128x1024) off S64x128x1024.size inb).toLoadRect (accAt m h q b G k1_t1_loop.trips)
      = bump q' b' A :=
  (View.readAt_full m.view _ inb).trans ((read_accAt_trips m h q b G).trans (bump_congr hq hb hG))

set_option maxHeartbeats 4000000 in
open Classical in
/-- The body of the second call at one point: it takes the block, the range's ends and the accumulator to the stepped
    accumulator, and at the last point the planes of it. -/
theorem run1 (c : Dev nD) (i : grid1.Coords) (arg1 : Memref sig .tc .smem S1x1 .f32) (harg1 : arg1.IsWhole) (arg2 : Memref sig .tc .smem S1x1 .f32) (harg2 : arg2.IsWhole) (arg3 : Memref sig .tc .vmem S128x1024 .f32) (harg3 : arg3.IsWhole) (arg4 : Memref sig .tc .vmem S1x4x64x1024 .f32) (harg4 : arg4.IsWhole) (arg5 : Memref sig .tc .vmem S64x128x1024 .i32) (harg5 : arg5.IsWhole) (arg6 : Memref sig .tc .vmem S128x1024 .i32) (harg6 : arg6.IsWhole) (arg7 : Memref sig .tc .vmem S128x1024 .i32) (harg7 : arg7.IsWhole)
    (hne : ¬(first1 i ∧ last1 i)) (x0 x1 : Vec F S1x1 .f32) (x2 : Vec F S128x1024 .f32) (x3 : Vec F S1x4x64x1024 .f32)
    (s0 : Vec F S64x128x1024 .i32) (s1 s2 : Vec F S128x1024 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare s0 ∗ owns (c : Thread nD τ) arg6 fullShare s1 ∗ owns (c : Thread nD τ) arg7 fullShare s2
        ∗ (iprop(owns (c : Thread nD τ) arg1 fullShare x0 ∗ owns (c : Thread nD τ) arg2 fullShare x1 ∗ owns (c : Thread nD τ) arg3 fullShare x2
            ∗ owns (c : Thread nD τ) arg4 fullShare (if last1 i then planes (accStep i x0 x1 x2 s0) else x3)
            ∗ owns (c : Thread nD τ) arg5 fullShare (accStep i x0 x1 x2 s0)
            ∗ owns (c : Thread nD τ) arg6 fullShare (slabNo x0 x1 x2) ∗ owns (c : Thread nD τ) arg7 fullShare (weightNo x0 x1 x2)) -∗ K ⟨⟩))
      ⊢ wp frame (wpE (defs₀ (F := F)) Variants.none c none) E (cc1_hist256 i arg1 harg1 arg2 harg2 arg3 harg3 arg4 harg4 arg5 harg5 arg6 harg6 arg7 harg7) K := by
  simp only [cc1_hist256_eq_skeleton]; unfold cc1_hist256_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%g0, %hg0, S0⟩, ⟨%g1, %hg1, S1⟩, ⟨%g2, %hg2, S2⟩, Hk⟩
  obtain rfl := harg1.eq_unread hf0; obtain rfl := harg2.eq_unread hf1; obtain rfl := harg3.eq_unread hf2
  obtain rfl := harg4.eq_unread hf3; obtain rfl := harg5.eq_unread hg0; obtain rfl := harg6.eq_unread hg1; obtain rfl := harg7.eq_unread hg2
  have e0 := load_held arg1.view _ x0 hf0 inb_S1x1_S1x1_0_0
  have e1 := load_held arg2.view _ x1 hf1 inb_S1x1_S1x1_0_0
  have e2 := load_held arg3.view _ x2 hf2 inb_S128x1024_S128x1024_0_0
  by_cases hc0 : first1 i
  · have hc1 : ¬last1 i := fun h => hne ⟨hc0, h⟩
    have hA : accStep i x0 x1 x2 s0 = bump (slabNo x0 x1 x2) (weightNo x0 x1 x2) k1_pay9 := by unfold accStep; rw [if_pos hc0]
    rw [if_neg hc1, hA]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact hf3
    isplitl [S0]
    · iexists _; isplitr
      swap; · iexact S0
      ipureintro
      exact (read_accAt_trips arg5 harg5 _ _ _).trans (bump_congr (View.read_writes_full _ _ _ _ _) (View.read_writes_full _ _ _ _ _) (View.read_writes_full arg5.view _ _ _ []))
    isplitl [S1]
    · iexists _; isplitr
      swap; · iexact S1
      ipureintro
      exact View.read_writes_full _ _ _ _ _
    iexists _; isplitr
    swap; · iexact S2
    ipureintro
    exact View.read_writes_full _ _ _ _ _
  by_cases hc1 : last1 i
  · have hA : accStep i x0 x1 x2 s0 = bump (slabNo x0 x1 x2) (weightNo x0 x1 x2) s0 := by unfold accStep; rw [if_neg hc0]
    rw [if_pos hc1, hA]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact read_planes_of _ _ (load_accAt arg5 harg5 (View.read_writes_full _ _ _ _ _) (View.read_writes_full _ _ _ _ _) hg0 inb_S64x128x1024_S64x128x1024_0_0_0) (load_accAt arg5 harg5 (View.read_writes_full _ _ _ _ _) (View.read_writes_full _ _ _ _ _) hg0 inb_S64x128x1024_S64x128x1024_0_0_0) (load_accAt arg5 harg5 (View.read_writes_full _ _ _ _ _) (View.read_writes_full _ _ _ _ _) hg0 inb_S64x128x1024_S64x128x1024_0_0_0) (load_accAt arg5 harg5 (View.read_writes_full _ _ _ _ _) (View.read_writes_full _ _ _ _ _) hg0 inb_S64x128x1024_S64x128x1024_0_0_0)
    isplitl [S0]
    · iexists _; isplitr
      swap; · iexact S0
      ipureintro
      exact (read_accAt_trips arg5 harg5 _ _ _).trans (bump_congr (View.read_writes_full _ _ _ _ _) (View.read_writes_full _ _ _ _ _) hg0)
    isplitl [S1]
    · iexists _; isplitr
      swap; · iexact S1
      ipureintro
      exact View.read_writes_full _ _ _ _ _
    iexists _; isplitr
    swap; · iexact S2
    ipureintro
    exact View.read_writes_full _ _ _ _ _
  · have hA : accStep i x0 x1 x2 s0 = bump (slabNo x0 x1 x2) (weightNo x0 x1 x2) s0 := by unfold accStep; rw [if_neg hc0]
    rw [if_neg hc1, hA]
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact hf3
    isplitl [S0]
    · iexists _; isplitr
      swap; · iexact S0
      ipureintro
      exact (read_accAt_trips arg5 harg5 _ _ _).trans (bump_congr (View.read_writes_full _ _ _ _ _) (View.read_writes_full _ _ _ _ _) hg0)
    isplitl [S1]
    · iexists _; isplitr
      swap; · iexact S1
      ipureintro
      exact View.read_writes_full _ _ _ _ _
    iexists _; isplitr
    swap; · iexact S2
    ipureintro
    exact View.read_writes_full _ _ _ _ _

end Cert.KernelIdeal.Hand

end
-- ==== Proof.Region1.lean ====
module

public import proofs.«01_k».proof.Proof.Body1

/-! # The second call as a pipeline

What each of the histogram call's buffers holds at every grid point, as the pipeline's proof data, and the body
obligation at every point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The second call's first point is point 0. -/
theorem first1_iff : ∀ t : Fin cfg1.N, first1 (grid1.coords t) ↔ t.val = 0 :=
  (fun t => by
    have ht : t.val < 128 := Nat.lt_of_lt_of_eq t.isLt N_1
    have e0 : (grid1.coords t 0).val = t.val / 1 % 128 := Pipeline.Grid.coords_val t 0 (by decide) rfl
    have h : first1 (grid1.coords t) ↔ t.val % 128 = 0 := by
      simp only [first1, e0]
      word_cmp
    rw [h]; omega
   : ∀ t : Fin grid1.N, first1 (grid1.coords t) ↔ t.val = 0)

/-- The second call's last point is point 127. -/
theorem last1_iff : ∀ t : Fin cfg1.N, last1 (grid1.coords t) ↔ t.val = 127 :=
  (fun t => by
    have ht : t.val < 128 := Nat.lt_of_lt_of_eq t.isLt N_1
    have e0 : (grid1.coords t 0).val = t.val / 1 % 128 := Pipeline.Grid.coords_val t 0 (by decide) rfl
    have h : last1 (grid1.coords t) ↔ t.val % 128 = 127 := by
      simp only [last1, k1_cond2, e0]
      word_cmp
    rw [h]; omega
   : ∀ t : Fin grid1.N, last1 (grid1.coords t) ↔ t.val = 127)

section Data

variable (W : Dev nD → Valuation τ sig (Elt F)) (c : Dev nD)

/-- Window `w`'s block at point `t`, read off its array as the call finds it. -/
def blk1 (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The packed accumulator after the first `n` points. -/
def packedAt : ℕ → Vec F S64x128x1024 .i32
  | 0 => k1_pay9
  | n + 1 => if h : n < cfg1.N then accStep (grid1.coords ⟨n, h⟩) (blk1 W c 0 ⟨n, h⟩) (blk1 W c 1 ⟨n, h⟩) (blk1 W c 2 ⟨n, h⟩) (packedAt n) else packedAt n

/-- One point more is one step of the accumulator. -/
theorem packedAt_succ (t : Fin cfg1.N) :
    packedAt W c (t.val + 1) = accStep (grid1.coords t) (blk1 W c 0 t) (blk1 W c 1 t) (blk1 W c 2 t) (packedAt W c t.val) := by
  rw [packedAt, dif_pos t.isLt]

/-- One point's step of the accumulator, the first point's starting from anything. -/
theorem accStep_eq (t : Fin cfg1.N) (y : Vec F S64x128x1024 .i32) (h : t.val ≠ 0 → y = packedAt W c t.val) :
    accStep (grid1.coords t) (blk1 W c 0 t) (blk1 W c 1 t) (blk1 W c 2 t) y = packedAt W c (t.val + 1) := by
  rw [packedAt_succ]
  by_cases h0 : t.val = 0
  · unfold accStep; rw [if_pos ((first1_iff t).2 h0), if_pos ((first1_iff t).2 h0)]
  · rw [h h0]

/-- The second call's accumulator. -/
abbrev scr1_0 : Memref sig .tc .vmem S64x128x1024 .i32 := Memref.whole cc1_scratch0
/-- The second call's buffer of slab numbers. -/
abbrev scr1_1 : Memref sig .tc .vmem S128x1024 .i32 := Memref.whole cc1_scratch1
/-- The second call's buffer of weights. -/
abbrev scr1_2 : Memref sig .tc .vmem S128x1024 .i32 := Memref.whole cc1_scratch2

/-- The buffers the second call neither stages nor works in, each at some contents. -/
def others1 : sProp 𝕄 :=
  bigSepL [cc0_stg0_0, cc0_stg0_1, cc0_stg1_0, cc0_stg1_1, cc0_stg2_0, cc0_stg2_1, cc0_stg3_0, cc0_stg3_1, cc0_stg4_0, cc0_scratch0, cc0_scratch1, cc2_stg2_0, cc2_stg3_0, cc2_stg3_1, cc2_stg4_0, cc2_stg4_1, cc2_stg0_0, cc2_stg1_0, cc2_scratch0]
    fun b => iprop(∃ f : Buf (Elt F) ((c : Thread nD τ).loc b), ((c : Thread nD τ).loc b) ↦{fullShare} f)

/-- The second call's own scratch buffers and the other buffers are its scoped rest. -/
theorem scoped1_eq : (Pipeline.scopedRest spec1 c : sProp 𝕄)
    = iprop((∃ d, owns (c : Thread nD τ) scr1_0 fullShare d) ∗ (∃ d, owns (c : Thread nD τ) scr1_1 fullShare d)
      ∗ (∃ d, owns (c : Thread nD τ) scr1_2 fullShare d) ∗ others1 (F := F) c) := by
  rw [Pipeline.scopedRest_eq_of_list spec1 c [cc1_scratch0, cc1_scratch1, cc1_scratch2, cc0_stg0_0, cc0_stg0_1, cc0_stg1_0, cc0_stg1_1, cc0_stg2_0, cc0_stg2_1, cc0_stg3_0, cc0_stg3_1, cc0_stg4_0, cc0_scratch0, cc0_scratch1, cc2_stg2_0, cc2_stg3_0, cc2_stg3_1, cc2_stg4_0, cc2_stg4_1, cc2_stg0_0, cc2_stg1_0, cc2_scratch0] (by decide) (by decide)]
  simp only [scr1_0, scr1_1, scr1_2, owns_whole]
  rfl

/-- The invariant after `n` points: the accumulator at what the points before packed — before the first point at
    anything —, the work buffers and the other buffers at anything. -/
def inv1 (n : ℕ) : sProp 𝕄 :=
  iprop((∃ s0, ⌜n ≠ 0 → s0 = packedAt W c n⌝ ∗ owns (c : Thread nD τ) scr1_0 fullShare s0)
    ∗ (∃ d, owns (c : Thread nD τ) scr1_1 fullShare d) ∗ (∃ d, owns (c : Thread nD τ) scr1_2 fullShare d)
    ∗ others1 (F := F) c ∗ ∃ r, prngReg c r)

/-- The second call's proof data: the arrays as the call finds them; after the body at a point each input's buffer at
    its block and the planes' buffer at the planes of what the points so far packed. -/
def dat1 : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => planes (packedAt W c (t.val + 1))
  Φ t := inv1 W c t.val
  q _ := fullShare
  owed _ := 0

/-- The arrays are those the call finds. -/
theorem dat1_A (w : Fin cfg1.W) : (dat1 W c).A w = W c (Proc.devRef .tc (Pipeline.arrRef spec1 w)) := by
  dsimp only [dat1]

/-- What window 0's buffer holds after the body at a point. -/
theorem dat1_after_0 (t : Fin cfg1.N) : (dat1 W c).after 0 t = blk1 W c 0 t := by dsimp only [dat1]
/-- What window 1's buffer holds after the body at a point. -/
theorem dat1_after_1 (t : Fin cfg1.N) : (dat1 W c).after 1 t = blk1 W c 1 t := by dsimp only [dat1]
/-- What window 2's buffer holds after the body at a point. -/
theorem dat1_after_2 (t : Fin cfg1.N) : (dat1 W c).after 2 t = blk1 W c 2 t := by dsimp only [dat1]
/-- What window 3's buffer holds after the body at a point. -/
theorem dat1_after_3 (t : Fin cfg1.N) : (dat1 W c).after 3 t = planes (packedAt W c (t.val + 1)) := by dsimp only [dat1]

/-- Every input's staging buffer holds its block at every point. -/
theorem before1_0 (t : Fin cfg1.N) (d) : (dat1 W c).before 0 t d = blk1 W c 0 t :=
  ((dat1 W c).before_in_eq_fetched 0 rfl (fun _ => rfl) (fun _ _ _ => rfl) (fun t => by rw [dat1_after_0]; unfold Dat.blockOf blk1; rw [dat1_A]; try rfl) t d).trans
    (by unfold Dat.fetched Dat.blockOf blk1; rw [dat1_A]; try rfl)
/-- Window 1's buffer holds its block before the body at every point. -/
theorem before1_1 (t : Fin cfg1.N) (d) : (dat1 W c).before 1 t d = blk1 W c 1 t :=
  ((dat1 W c).before_in_eq_fetched 1 rfl (fun _ => rfl) (fun _ _ _ => rfl) (fun t => by rw [dat1_after_1]; unfold Dat.blockOf blk1; rw [dat1_A]; try rfl) t d).trans
    (by unfold Dat.fetched Dat.blockOf blk1; rw [dat1_A]; try rfl)
/-- Window 2's buffer holds its block before the body at every point. -/
theorem before1_2 (t : Fin cfg1.N) (d) : (dat1 W c).before 2 t d = blk1 W c 2 t :=
  ((dat1 W c).before_in_eq_fetched 2 rfl (fun _ => rfl) (fun _ _ _ => rfl) (fun t => by rw [dat1_after_2]; unfold Dat.blockOf blk1; rw [dat1_A]; try rfl) t d).trans
    (by unfold Dat.fetched Dat.blockOf blk1; rw [dat1_A]; try rfl)

/-- The planes' buffer is idle at every point but the last. -/
theorem idle1_3 (t : Fin cfg1.N) (h : ¬last1 (grid1.coords t)) : cfg1.idle 3 (cfg1.grid.coords t) = true := by
  show (!(k1_cond2 (grid1.coords t) == 1#1)) = true
  simpa using h

/-- At the last point it is written. -/
theorem live1_3 (t : Fin cfg1.N) (h : last1 (grid1.coords t)) : cfg1.idle 3 (cfg1.grid.coords t) = false := by
  show (!(k1_cond2 (grid1.coords t) == 1#1)) = false
  simpa using h

/-- What the body is called with at a point, -/
def pre1 (t : Fin cfg1.N) : sProp 𝕄 :=
  iprop((dat1 W c).Φ t.castSucc ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d))
    ∗ (∃ d, owns (c : Thread nD τ) (win1_2.stage (cfg1.slots t 2)) fullShare ((dat1 W c).before 2 t d))
    ∗ (∃ d, owns (c : Thread nD τ) (win1_3.stage (cfg1.slots t 3)) fullShare ((dat1 W c).before 3 t d)))

/-- and what it returns. -/
def post1 (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t ∗ (dat1 W c).leavesExact 3 t)

/-- What the planes' buffer is left at: the planes at the last point, what it held at the others. -/
theorem leaves1_3 (t : Fin cfg1.N) (d) :
    iprop(owns (c : Thread nD τ) (win1_3.stage (cfg1.slots t 3)) fullShare
      (open Classical in if last1 (grid1.coords t) then planes (packedAt W c (t.val + 1)) else (dat1 W c).before 3 t d))
      ⊢ ((dat1 W c).leavesExact 3 t : sProp 𝕄) := by
  by_cases h : last1 (grid1.coords t)
  · rw [if_pos h, show (dat1 W c).leavesExact 3 t = owns (c : Thread nD τ) (win1_3.stage (cfg1.slots t 3)) fullShare ((dat1 W c).after 3 t) from by
      unfold Dat.leavesExact; rw [live1_3 t h], dat1_after_3]
  · have hf : (cfg1.win 3).flush t = false := by
      rw [Bool.eq_false_iff]; intro hf
      have hl := (flush1_3 t).1 hf
      have ht : t.val < 128 := Nat.lt_of_lt_of_eq t.isLt N_1
      exact h ((last1_iff t).2 (by omega))
    rw [if_neg h, (dat1 W c).leavesExact_idle 3 t (idle1_3 t h) hf]
    iintro H; iexists d; iexact H

set_option maxHeartbeats 1600000 in
/-- The body at any point takes what the pipeline hands it to what the pipeline expects. -/
theorem sound1 (t : Fin cfg1.N) :
    pre1 W c t ⊢ wp frame (wpE (defs₀ (F := F)) Variants.none c none) Set.univ (bodyAt1 t) (fun _ => post1 W c t) := by
  unfold pre1 post1 bodyAt1
  simp only [before1_0, before1_1, before1_2]
  rw [show (dat1 W c).owesAt () t.succ = (dat1 W c).owesAt () t.castSucc from rfl]
  rw [show (dat1 W c).Φ t.castSucc = inv1 W c t.val from rfl, show (dat1 W c).Φ t.succ = inv1 W c (t.val + 1) from rfl]
  rw [show (dat1 W c).leavesExact 0 t = owns (c : Thread nD τ) (win1_0.stage (cfg1.slots t 0)) fullShare ((dat1 W c).after 0 t) from rfl, dat1_after_0]
  rw [show (dat1 W c).leavesExact 1 t = owns (c : Thread nD τ) (win1_1.stage (cfg1.slots t 1)) fullShare ((dat1 W c).after 1 t) from rfl, dat1_after_1]
  rw [show (dat1 W c).leavesExact 2 t = owns (c : Thread nD τ) (win1_2.stage (cfg1.slots t 2)) fullShare ((dat1 W c).after 2 t) from rfl, dat1_after_2]
  have hN : t.val < 128 := Nat.lt_of_lt_of_eq t.isLt N_1
  have hne : ¬(first1 (grid1.coords t) ∧ last1 (grid1.coords t)) := fun h => by
    have h0 := (first1_iff t).1 h.1; have h1 := (last1_iff t).1 h.2; omega
  unfold inv1
  iintro ⟨⟨⟨%s0, %hs, S0⟩, ⟨%s1, S1⟩, ⟨%s2, S2⟩, Hr, Hg⟩, Ho, ⟨%d0, H0⟩, ⟨%d1, H1⟩, ⟨%d2, H2⟩, ⟨%d3, H3⟩⟩
  have hacc := accStep_eq W c t s0 hs
  iapply (run1 c (grid1.coords t) _ _ _ _ _ _ _ _ _ _ _ _ _ _ hne (blk1 W c 0 t) (blk1 W c 1 t) (blk1 W c 2 t) ((dat1 W c).before 3 t d3) s0 s1 s2)
  isplitl [H0]; · iexact H0
  isplitl [H1]; · iexact H1
  isplitl [H2]; · iexact H2
  isplitl [H3]; · iexact H3
  isplitl [S0]; · iexact S0
  isplitl [S1]; · iexact S1
  isplitl [S2]; · iexact S2
  rw [hacc]
  iintro ⟨H0, H1, H2, H3, S0, S1, S2⟩
  isplitl [S0 S1 S2 Hr Hg]
  · isplitl [S0]
    · iexists _; isplitr
      swap; · iexact S0
      ipureintro; exact fun _ => rfl
    isplitl [S1]; · iexists _; iexact S1
    isplitl [S2]; · iexists _; iexact S2
    isplitl [Hr]; · iexact Hr
    iexact Hg
  isplitl [Ho]; · iexact Ho
  isplitl [H0]; · iexact H0
  isplitl [H1]; · iexact H1
  isplitl [H2]; · iexact H2
  iapply (leaves1_3 W c t d3)
  iexact H3

/-- The body the pipeline calls at a point's slots is the second call's body there. -/
theorem row1 (t : Fin cfg1.N) :
    defs₀ (F := F) .tc cfg1.body (cfg1.bodyArgs t (cfg1.slots t)) = bodyAt1 t := by
  unfold defs₀; rw [Defs.onTc_tc]

/-- The pipeline's body obligation for the second call. -/
theorem obligation1 : BodyObligation (dat1 W c) (defs₀ (F := F)) Variants.none () Set.univ := fun t => by
  rw [bigSep_W1, bigSep_W1, row1]
  exact triple_restated (sound1 W c t) rfl .rfl fun _ => .rfl

/-- What the launch hands the call is the invariant before the first point, -/
theorem enter1 : iprop(Pipeline.scopedRest spec1 c ∗ ∃ r, prngReg c r) ⊢ ((dat1 W c).Φ 0 : sProp 𝕄) := by
  rw [show (dat1 W c).Φ 0 = inv1 W c 0 from rfl, scoped1_eq]
  unfold inv1
  iintro ⟨⟨⟨%s0, S0⟩, S1, S2, Hr⟩, Hg⟩
  isplitl [S0]
  · iexists s0; isplitr
    · ipureintro; exact fun h => absurd rfl h
    iexact S0
  isplitl [S1]; · iexact S1
  isplitl [S2]; · iexact S2
  isplitl [Hr]; · iexact Hr
  iexact Hg

/-- and the invariant after the last point gives it back. -/
theorem leave1 : ((dat1 W c).Φ (Fin.last cfg1.N) : sProp 𝕄) ⊢ iprop(Pipeline.scopedRest spec1 c ∗ ∃ r, prngReg c r) := by
  rw [show (dat1 W c).Φ (Fin.last cfg1.N) = inv1 W c cfg1.N from rfl, scoped1_eq]
  unfold inv1
  iintro ⟨⟨%s0, %hs, S0⟩, S1, S2, Hr, Hg⟩
  isplitl [S0 S1 S2 Hr]
  · isplitl [S0]; · iexists _; iexact S0
    isplitl [S1]; · iexact S1
    isplitl [S2]; · iexact S2
    iexact Hr
  iexact Hg

end Data

end Cert.KernelIdeal.Hand

end
-- ==== Proof.Body2.lean ====
module

public import proofs.«01_k».proof.Proof.Body1

/-! # The threshold kernel's body at one grid point

One run of the body of the third call, with every buffer's contents afterwards named: the threshold chosen at the
first point and the binarized block. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is the grid's first one, as the third call's body tests it. -/
abbrev first2 (i : grid2.Coords) : Prop :=
  (Scalar.cmpi .ne (Scalar.extui (Scalar.cmpi .eq (BitVec.ofNat 32 (i 0).val) 0#32)) 0#32) = 1#1

/-- The threshold chosen from the range's two ends and the counts. -/
def chosen (x0 x1 : Vec F S1x1 .f32) (x2 : Vec F S1x256 .f32) : Elt F .f32 :=
  k2_pay1 (k2_pay4 (only x0) (only x1)) (k2_pay6 x2) (k2_pay8 x2) (k2_pay9 (only x0) (only x1) x2)

open Classical in
/-- The stored threshold after one point. -/
def thrStep (i : grid2.Coords) (x0 x1 : Vec F S1x1 .f32) (x2 : Vec F S1x256 .f32) (s : Vec F S1x1 .f32) : Vec F S1x1 .f32 :=
  if first2 i then fun _ => chosen x0 x1 x2 else s

set_option maxHeartbeats 4000000 in
/-- The body of the third call at one point: at the first point it stores the chosen threshold, and at every point it
    compares the block with the stored one. -/
theorem run2 (c : Dev nD) (i : grid2.Coords) (arg1 : Memref sig .tc .smem S1x1 .f32) (harg1 : arg1.IsWhole) (arg2 : Memref sig .tc .smem S1x1 .f32) (harg2 : arg2.IsWhole) (arg3 : Memref sig .tc .vmem S1x256 .f32) (harg3 : arg3.IsWhole) (arg4 : Memref sig .tc .vmem S512x1024 .f32) (harg4 : arg4.IsWhole) (arg5 : Memref sig .tc .vmem S512x1024 .f32) (harg5 : arg5.IsWhole) (arg6 : Memref sig .tc .smem S1x1 .f32) (harg6 : arg6.IsWhole)
    (x0 x1 : Vec F S1x1 .f32) (x2 : Vec F S1x256 .f32) (x3 x4 : Vec F S512x1024 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 (only (thrStep i x0 x1 x2 s)) x3)
            ∗ owns (c : Thread nD τ) arg6 fullShare (thrStep i x0 x1 x2 s)) -∗ K ⟨⟩))
      ⊢ wp frame (wpE (defs₀ (F := F)) Variants.none c none) E (cc2_otsu_binarize i arg1 harg1 arg2 harg2 arg3 harg3 arg4 harg4 arg5 harg5 arg6 harg6) K := by
  simp only [cc2_otsu_binarize_eq_skeleton]; unfold cc2_otsu_binarize_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, Hk⟩
  obtain rfl := harg1.eq_unread hf0; obtain rfl := harg2.eq_unread hf1; obtain rfl := harg3.eq_unread hf2
  obtain rfl := harg4.eq_unread hf3; obtain rfl := harg6.eq_unread hg0
  have e0 := load_held arg1.view _ x0 hf0 inb_S1x1_S1x1_0_0
  have e1 := load_held arg2.view _ x1 hf1 inb_S1x1_S1x1_0_0
  have e2 := load_held arg3.view _ x2 hf2 inb_S1x256_S1x256_0_0
  have e3 := load_held arg4.view _ x3 hf3 inb_S512x1024_S512x1024_0_0
  have e6 := load_held arg6.view _ s hg0 inb_S1x1_S1x1_0_0
  by_cases hc0 : first2 i
  · have hA : thrStep i x0 x1 x2 s = fun _ => chosen x0 x1 x2 := by unfold thrStep; rw [if_pos hc0]
    rw [hA]
    sl_exec (disch := sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      exact View.read_writes_full _ _ _ _ _
    iexists _; isplitr
    swap; · iexact S0
    ipureintro
    exact View.read_writes_full _ _ _ _ _
  · have hA : thrStep i x0 x1 x2 s = s := by unfold thrStep; rw [if_neg hc0]
    rw [hA]
    sl_exec (disch := sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      exact View.read_writes_full _ _ _ _ _
    iexists _; isplitr
    swap; · iexact S0
    ipureintro
    exact hg0

end Cert.KernelIdeal.Hand

end
-- ==== Proof.Region2.lean ====
module

public import proofs.«01_k».proof.Proof.Body2

/-! # The third call as a pipeline

What each of the threshold call's buffers holds at every grid point, as the pipeline's proof data, and the body
obligation at every point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The third call's first point is point 0. -/
theorem first2_iff : ∀ t : Fin cfg2.N, first2 (grid2.coords t) ↔ t.val = 0 :=
  (fun t => by
    have ht : t.val < 32 := Nat.lt_of_lt_of_eq t.isLt N_2
    have e0 : (grid2.coords t 0).val = t.val / 1 % 32 := Pipeline.Grid.coords_val t 0 (by decide) rfl
    have h : first2 (grid2.coords t) ↔ t.val % 32 = 0 := by
      simp only [first2, e0]
      word_cmp
    rw [h]; omega
   : ∀ t : Fin grid2.N, first2 (grid2.coords t) ↔ t.val = 0)

section Data

variable (W : Dev nD → Valuation τ sig (Elt F)) (c : Dev nD)

/-- Window `w`'s block at point `t`, read off its array as the call finds it. -/
def blk2 (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The stored threshold after the first `n` points. -/
def thrAt : ℕ → Vec F S1x1 .f32
  | 0 => blk2 W c 0 ⟨0, by decide⟩
  | n + 1 => if h : n < cfg2.N then thrStep (grid2.coords ⟨n, h⟩) (blk2 W c 0 ⟨n, h⟩) (blk2 W c 1 ⟨n, h⟩) (blk2 W c 2 ⟨n, h⟩) (thrAt n) else thrAt n

/-- One point more is one step of the threshold. -/
theorem thrAt_succ (t : Fin cfg2.N) :
    thrAt W c (t.val + 1) = thrStep (grid2.coords t) (blk2 W c 0 t) (blk2 W c 1 t) (blk2 W c 2 t) (thrAt W c t.val) := by
  rw [thrAt, dif_pos t.isLt]

/-- One point's step of the threshold, the first point's starting from anything. -/
theorem thrStep_eq (t : Fin cfg2.N) (y : Vec F S1x1 .f32) (h : t.val ≠ 0 → y = thrAt W c t.val) :
    thrStep (grid2.coords t) (blk2 W c 0 t) (blk2 W c 1 t) (blk2 W c 2 t) y = thrAt W c (t.val + 1) := by
  rw [thrAt_succ]
  by_cases h0 : t.val = 0
  · unfold thrStep; rw [if_pos ((first2_iff t).2 h0), if_pos ((first2_iff t).2 h0)]
  · rw [h h0]

/-- The third call's stored threshold. -/
abbrev scr2_0 : Memref sig .tc .smem S1x1 .f32 := Memref.whole cc2_scratch0

/-- The buffers the third call neither stages nor works in, each at some contents. -/
def others2 : sProp 𝕄 :=
  bigSepL [cc0_stg0_0, cc0_stg0_1, cc0_stg1_0, cc0_stg1_1, cc0_stg2_0, cc0_stg2_1, cc0_stg3_0, cc0_stg3_1, cc0_stg4_0, cc0_scratch0, cc0_scratch1, cc1_stg2_0, cc1_stg2_1, cc1_stg3_0, cc1_scratch0, cc1_scratch1, cc1_scratch2, cc1_stg0_0, cc1_stg1_0]
    fun b => iprop(∃ f : Buf (Elt F) ((c : Thread nD τ).loc b), ((c : Thread nD τ).loc b) ↦{fullShare} f)

/-- The third call's own scratch buffer and the other buffers are its scoped rest. -/
theorem scoped2_eq : (Pipeline.scopedRest spec2 c : sProp 𝕄)
    = iprop((∃ d, owns (c : Thread nD τ) scr2_0 fullShare d) ∗ others2 (F := F) c) := by
  rw [Pipeline.scopedRest_eq_of_list spec2 c [cc2_scratch0, cc0_stg0_0, cc0_stg0_1, cc0_stg1_0, cc0_stg1_1, cc0_stg2_0, cc0_stg2_1, cc0_stg3_0, cc0_stg3_1, cc0_stg4_0, cc0_scratch0, cc0_scratch1, cc1_stg2_0, cc1_stg2_1, cc1_stg3_0, cc1_scratch0, cc1_scratch1, cc1_scratch2, cc1_stg0_0, cc1_stg1_0] (by decide) (by decide)]
  simp only [scr2_0, owns_whole]
  rfl

/-- The invariant after `n` points: the threshold's buffer at the stored threshold — before the first point at
    anything —, the other buffers at anything. -/
def inv2 (n : ℕ) : sProp 𝕄 :=
  iprop((∃ s0, ⌜n ≠ 0 → s0 = thrAt W c n⌝ ∗ owns (c : Thread nD τ) scr2_0 fullShare s0)
    ∗ others2 (F := F) c ∗ ∃ r, prngReg c r)

/-- The third call's proof data: the arrays as the call finds them; after the body at a point each input's buffer at
    its block and the result's buffer at the block compared with the stored threshold. -/
def dat2 : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => k2_pay2 (only (thrAt W c (t.val + 1))) (blk2 W c 3 t)
  Φ t := inv2 W c t.val
  q _ := fullShare
  owed _ := 0

/-- The arrays are those the call finds. -/
theorem dat2_A (w : Fin cfg2.W) : (dat2 W c).A w = W c (Proc.devRef .tc (Pipeline.arrRef spec2 w)) := by
  dsimp only [dat2]

/-- What window 0's buffer holds after the body at a point. -/
theorem dat2_after_0 (t : Fin cfg2.N) : (dat2 W c).after 0 t = blk2 W c 0 t := by dsimp only [dat2]
/-- What window 1's buffer holds after the body at a point. -/
theorem dat2_after_1 (t : Fin cfg2.N) : (dat2 W c).after 1 t = blk2 W c 1 t := by dsimp only [dat2]
/-- What window 2's buffer holds after the body at a point. -/
theorem dat2_after_2 (t : Fin cfg2.N) : (dat2 W c).after 2 t = blk2 W c 2 t := by dsimp only [dat2]
/-- What window 3's buffer holds after the body at a point. -/
theorem dat2_after_3 (t : Fin cfg2.N) : (dat2 W c).after 3 t = blk2 W c 3 t := by dsimp only [dat2]
/-- What window 4's buffer holds after the body at a point. -/
theorem dat2_after_4 (t : Fin cfg2.N) : (dat2 W c).after 4 t = k2_pay2 (only (thrAt W c (t.val + 1))) (blk2 W c 3 t) := by dsimp only [dat2]

/-- Every input's staging buffer holds its block at every point. -/
theorem before2_0 (t : Fin cfg2.N) (d) : (dat2 W c).before 0 t d = blk2 W c 0 t :=
  ((dat2 W c).before_in_eq_fetched 0 rfl (fun _ => rfl) (fun _ _ _ => rfl) (fun t => by rw [dat2_after_0]; unfold Dat.blockOf blk2; rw [dat2_A]; try rfl) t d).trans
    (by unfold Dat.fetched Dat.blockOf blk2; rw [dat2_A]; try rfl)
/-- Window 1's buffer holds its block before the body at every point. -/
theorem before2_1 (t : Fin cfg2.N) (d) : (dat2 W c).before 1 t d = blk2 W c 1 t :=
  ((dat2 W c).before_in_eq_fetched 1 rfl (fun _ => rfl) (fun _ _ _ => rfl) (fun t => by rw [dat2_after_1]; unfold Dat.blockOf blk2; rw [dat2_A]; try rfl) t d).trans
    (by unfold Dat.fetched Dat.blockOf blk2; rw [dat2_A]; try rfl)
/-- Window 2's buffer holds its block before the body at every point. -/
theorem before2_2 (t : Fin cfg2.N) (d) : (dat2 W c).before 2 t d = blk2 W c 2 t :=
  ((dat2 W c).before_in_eq_fetched 2 rfl (fun _ => rfl) (fun _ _ _ => rfl) (fun t => by rw [dat2_after_2]; unfold Dat.blockOf blk2; rw [dat2_A]; try rfl) t d).trans
    (by unfold Dat.fetched Dat.blockOf blk2; rw [dat2_A]; try rfl)
/-- Window 3's buffer holds its block before the body at every point. -/
theorem before2_3 (t : Fin cfg2.N) (d) : (dat2 W c).before 3 t d = blk2 W c 3 t :=
  ((dat2 W c).before_in_eq_fetched 3 rfl (fun _ => rfl) (fun _ _ _ => rfl) (fun t => by rw [dat2_after_3]; unfold Dat.blockOf blk2; rw [dat2_A]; try rfl) t d).trans
    (by unfold Dat.fetched Dat.blockOf blk2; rw [dat2_A]; try rfl)

/-- What the body is called with at a point, -/
def pre2 (t : Fin cfg2.N) : sProp 𝕄 :=
  iprop((dat2 W c).Φ t.castSucc ∗ (dat2 W c).owesAt () t.castSucc
    ∗ (∃ d, owns (c : Thread nD τ) (win2_0.stage (cfg2.slots t 0)) fullShare ((dat2 W c).before 0 t d))
    ∗ (∃ d, owns (c : Thread nD τ) (win2_1.stage (cfg2.slots t 1)) fullShare ((dat2 W c).before 1 t d))
    ∗ (∃ d, owns (c : Thread nD τ) (win2_2.stage (cfg2.slots t 2)) fullShare ((dat2 W c).before 2 t d))
    ∗ (∃ d, owns (c : Thread nD τ) (win2_3.stage (cfg2.slots t 3)) fullShare ((dat2 W c).before 3 t d))
    ∗ (∃ d, owns (c : Thread nD τ) (win2_4.stage (cfg2.slots t 4)) fullShare ((dat2 W c).before 4 t d)))

/-- and what it returns. -/
def post2 (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t
    ∗ (dat2 W c).leavesExact 3 t ∗ (dat2 W c).leavesExact 4 t)

set_option maxHeartbeats 1600000 in
/-- The body at any point takes what the pipeline hands it to what the pipeline expects. -/
theorem sound2 (t : Fin cfg2.N) :
    pre2 W c t ⊢ wp frame (wpE (defs₀ (F := F)) Variants.none c none) Set.univ (bodyAt2 t) (fun _ => post2 W c t) := by
  unfold pre2 post2 bodyAt2
  simp only [before2_0, before2_1, before2_2, before2_3]
  rw [show (dat2 W c).owesAt () t.succ = (dat2 W c).owesAt () t.castSucc from rfl]
  rw [show (dat2 W c).Φ t.castSucc = inv2 W c t.val from rfl, show (dat2 W c).Φ t.succ = inv2 W c (t.val + 1) from rfl]
  rw [show (dat2 W c).leavesExact 0 t = owns (c : Thread nD τ) (win2_0.stage (cfg2.slots t 0)) fullShare ((dat2 W c).after 0 t) from rfl, dat2_after_0]
  rw [show (dat2 W c).leavesExact 1 t = owns (c : Thread nD τ) (win2_1.stage (cfg2.slots t 1)) fullShare ((dat2 W c).after 1 t) from rfl, dat2_after_1]
  rw [show (dat2 W c).leavesExact 2 t = owns (c : Thread nD τ) (win2_2.stage (cfg2.slots t 2)) fullShare ((dat2 W c).after 2 t) from rfl, dat2_after_2]
  rw [show (dat2 W c).leavesExact 3 t = owns (c : Thread nD τ) (win2_3.stage (cfg2.slots t 3)) fullShare ((dat2 W c).after 3 t) from rfl, dat2_after_3]
  rw [show (dat2 W c).leavesExact 4 t = owns (c : Thread nD τ) (win2_4.stage (cfg2.slots t 4)) fullShare ((dat2 W c).after 4 t) from rfl, dat2_after_4]
  unfold inv2
  iintro ⟨⟨⟨%s0, %hs, S0⟩, Hr, Hg⟩, Ho, ⟨%d0, H0⟩, ⟨%d1, H1⟩, ⟨%d2, H2⟩, ⟨%d3, H3⟩, ⟨%d4, H4⟩⟩
  have hthr := thrStep_eq W c t s0 hs
  iapply (run2 c (grid2.coords t) _ _ _ _ _ _ _ _ _ _ _ _ (blk2 W c 0 t) (blk2 W c 1 t) (blk2 W c 2 t) (blk2 W c 3 t) ((dat2 W c).before 4 t d4) s0)
  isplitl [H0]; · iexact H0
  isplitl [H1]; · iexact H1
  isplitl [H2]; · iexact H2
  isplitl [H3]; · iexact H3
  isplitl [H4]; · iexact H4
  isplitl [S0]; · iexact S0
  rw [hthr]
  iintro ⟨H0, H1, H2, H3, H4, S0⟩
  isplitl [S0 Hr Hg]
  · isplitl [S0]
    · iexists _; isplitr
      swap; · iexact S0
      ipureintro; exact fun _ => rfl
    isplitl [Hr]; · iexact Hr
    iexact Hg
  isplitl [Ho]; · iexact Ho
  isplitl [H0]; · iexact H0
  isplitl [H1]; · iexact H1
  isplitl [H2]; · iexact H2
  isplitl [H3]; · iexact H3
  iexact H4

/-- The body the pipeline calls at a point's slots is the third call's body there. -/
theorem row2 (t : Fin cfg2.N) :
    defs₀ (F := F) .tc cfg2.body (cfg2.bodyArgs t (cfg2.slots t)) = bodyAt2 t := by
  unfold defs₀; rw [Defs.onTc_tc]

/-- The pipeline's body obligation for the third call. -/
theorem obligation2 : BodyObligation (dat2 W c) (defs₀ (F := F)) Variants.none () Set.univ := fun t => by
  rw [bigSep_W2, bigSep_W2, row2]
  exact triple_restated (sound2 W c t) rfl .rfl fun _ => .rfl

/-- What the launch hands the call is the invariant before the first point, -/
theorem enter2 : iprop(Pipeline.scopedRest spec2 c ∗ ∃ r, prngReg c r) ⊢ ((dat2 W c).Φ 0 : sProp 𝕄) := by
  rw [show (dat2 W c).Φ 0 = inv2 W c 0 from rfl, scoped2_eq]
  unfold inv2
  iintro ⟨⟨⟨%s0, S0⟩, Hr⟩, Hg⟩
  isplitl [S0]
  · iexists s0; isplitr
    · ipureintro; exact fun h => absurd rfl h
    iexact S0
  isplitl [Hr]; · iexact Hr
  iexact Hg

/-- and the invariant after the last point gives it back. -/
theorem leave2 : ((dat2 W c).Φ (Fin.last cfg2.N) : sProp 𝕄) ⊢ iprop(Pipeline.scopedRest spec2 c ∗ ∃ r, prngReg c r) := by
  rw [show (dat2 W c).Φ (Fin.last cfg2.N) = inv2 W c cfg2.N from rfl, scoped2_eq]
  unfold inv2
  iintro ⟨⟨%s0, %hs, S0⟩, Hr, Hg⟩
  isplitl [S0 Hr]
  · isplitl [S0]; · iexists _; iexact S0
    iexact Hr
  iexact Hg

end Data

end Cert.KernelIdeal.Hand

end
-- ==== Proof.Run.lean ====
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.RegionArraysS

/-! # The run of the whole program

The contents of the program's arrays between its items (four stretches of host operations and three calls), the three
calls as segments, and the run: every execution ends with the result array at the last valuation, the argument
unchanged and every semaphore counter at zero. All of it holds for any floats. -/

@[expose] public section

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

section Contents

variable (m : (ℓ : Loc nD τ sig) → Buf (Elt F) ℓ)

/-- The arrays at launch, -/
def W0 (c : Dev nD) : Valuation τ sig (Elt F) := fun b => m (c, b)
/-- after the channels are sliced out, -/
def W1 (c : Dev nD) : Valuation τ sig (Elt F) := StableHlo.after hostOps0 (W0 m c)
/-- after the first call, -/
def W2 (c : Dev nD) : Valuation τ sig (Elt F) := Pipeline.afterRegion (dat0 (W1 m) c) (W1 m c)
/-- after the minimum and the maximum are read off its rows, -/
def W3 (c : Dev nD) : Valuation τ sig (Elt F) := StableHlo.after hostOps1 (W2 m c)
/-- after the second call, -/
def W4 (c : Dev nD) : Valuation τ sig (Elt F) := Pipeline.afterRegion (dat1 (W3 m) c) (W3 m c)
/-- after its planes are added up, -/
def W5 (c : Dev nD) : Valuation τ sig (Elt F) := StableHlo.after hostOps2 (W4 m c)
/-- after the third call, -/
def W6 (c : Dev nD) : Valuation τ sig (Elt F) := Pipeline.afterRegion (dat2 (W5 m) c) (W5 m c)
/-- and at the end. -/
def W7 (c : Dev nD) : Valuation τ sig (Elt F) := StableHlo.after hostOps3 (W6 m c)

/-- The three calls' proof data, each over the arrays as the call finds them. -/
def pdats : (p : Fin 3) → (c : Dev nD) → Dat τ (Elt F) Unit ℕ (UR sig nD τ) ℕ (cfgs p) c
  | ⟨0, _⟩ => fun c => dat0 (W1 m) c
  | ⟨1, _⟩ => fun c => dat1 (W3 m) c
  | ⟨2, _⟩ => fun c => dat2 (W5 m) c
  | ⟨_ + 3, h⟩ => absurd h (by omega)

/-- What stays beside the arrays: the core owes nothing and holds its generator's register. -/
def rest (c : Dev nD) : sProp 𝕄 :=
  iprop((∃ Wd, owes (c : Thread nD τ) (0 : CellTallies nD τ sig Unit) Wd) ∗ (∃ r, prngReg c r) ∗ emp)

/-- One level for every cell of a TensorCore. -/
def lvls : GSem nD τ sig → Finset Unit := fun g => if g.1.2 = .tc then {()} else ∅

/-- A core that owes nothing is below every cell it waits at. -/
theorem cut (p : Fin 3) : Pipeline.LevelCut (pcfgs (F := F)) adm () lvls (fun _ _ => (0 : ℕ)) p (fun _ => 0) (fun _ => 0) where
  hι _ _ _ := by unfold lvls; simp
  hιb _ _ _ := le_refl _
  hD _ _ _ h := absurd h (lt_irrefl _)

-- the records are stated at the pinned configurations, which unfold to the printed ones
set_option backward.isDefEq.respectTransparency.types false in
/-- The first call as a segment. -/
def reg0 : RegionSeg (pcfgs (F := F)) adm (pdats m) () defs₀ Variants.none lvls (fun _ _ => (0 : ℕ)) 0 :=
  RegionSeg.ofHeldIn _ _ _ _ _ _ _ _ 0 (fun _ => 0) (Pipeline.ucRefs τ sig) (fun c => iprop(∃ r, prngReg c r)) (fun c => iprop(∃ r, prngReg c r))
    launch0.toP rfl (fun c => (obligation0 (W1 m) c).loose) (fun _ _ => rfl) (fun _ => rfl)
    (fun c => (dat0 (W1 m) c).share_full fun _ => rfl) (fun c => enter0 (W1 m) c) (fun c => leave0 (W1 m) c) (fun _ => 0) (cut 0)
    (fun _ => iprop(emp)) (W1 m) (fun c w => dat0_A (W1 m) c w)

set_option backward.isDefEq.respectTransparency.types false in
/-- It is entered from the arrays at `W1`, -/
theorem reg0_pre (c : Dev nD) : iprop(StableHlo.held (c : Thread nD τ) (Pipeline.ucRefs τ sig) (W1 m c) ∗ rest c) ⊢ (reg0 m).pre c := by
  refine BI.Entails.trans ?_ (RegionSeg.ofHeldIn_pre (Pipeline.arrRefs_sub_ucRefs _ winFacts0.arr_unscoped) c)
  exact BI.Entails.refl _

set_option backward.isDefEq.respectTransparency.types false in
/-- and leaves them at `W2`. -/
theorem reg0_post (c : Dev nD) : (reg0 m).post c ⊢ iprop(StableHlo.held (c : Thread nD τ) (Pipeline.ucRefs τ sig) (W2 m c) ∗ rest c) :=
  RegionSeg.ofHeldIn_post (Pipeline.arrRefs_sub_ucRefs _ winFacts0.arr_unscoped) c

set_option backward.isDefEq.respectTransparency.types false in
/-- The second call as a segment. -/
def reg1 : RegionSeg (pcfgs (F := F)) adm (pdats m) () defs₀ Variants.none lvls (fun _ _ => (0 : ℕ)) 1 :=
  RegionSeg.ofHeldIn _ _ _ _ _ _ _ _ 1 (fun _ => 0) (Pipeline.ucRefs τ sig) (fun c => iprop(∃ r, prngReg c r)) (fun c => iprop(∃ r, prngReg c r))
    launch1.toP rfl (fun c => (obligation1 (W3 m) c).loose) (fun _ _ => rfl) (fun _ => rfl)
    (fun c => (dat1 (W3 m) c).share_full fun _ => rfl) (fun c => enter1 (W3 m) c) (fun c => leave1 (W3 m) c) (fun _ => 0) (cut 1)
    (fun _ => iprop(emp)) (W3 m) (fun c w => dat1_A (W3 m) c w)

set_option backward.isDefEq.respectTransparency.types false in
/-- It is entered from the arrays at `W3`, -/
theorem reg1_pre (c : Dev nD) : iprop(StableHlo.held (c : Thread nD τ) (Pipeline.ucRefs τ sig) (W3 m c) ∗ rest c) ⊢ (reg1 m).pre c := by
  refine BI.Entails.trans ?_ (RegionSeg.ofHeldIn_pre (Pipeline.arrRefs_sub_ucRefs _ winFacts1.arr_unscoped) c)
  exact BI.Entails.refl _

set_option backward.isDefEq.respectTransparency.types false in
/-- and leaves them at `W4`. -/
theorem reg1_post (c : Dev nD) : (reg1 m).post c ⊢ iprop(StableHlo.held (c : Thread nD τ) (Pipeline.ucRefs τ sig) (W4 m c) ∗ rest c) :=
  RegionSeg.ofHeldIn_post (Pipeline.arrRefs_sub_ucRefs _ winFacts1.arr_unscoped) c

set_option backward.isDefEq.respectTransparency.types false in
/-- The third call as a segment. -/
def reg2 : RegionSeg (pcfgs (F := F)) adm (pdats m) () defs₀ Variants.none lvls (fun _ _ => (0 : ℕ)) 2 :=
  RegionSeg.ofHeldIn _ _ _ _ _ _ _ _ 2 (fun _ => 0) (Pipeline.ucRefs τ sig) (fun c => iprop(∃ r, prngReg c r)) (fun c => iprop(∃ r, prngReg c r))
    launch2.toP rfl (fun c => (obligation2 (W5 m) c).loose) (fun _ _ => rfl) (fun _ => rfl)
    (fun c => (dat2 (W5 m) c).share_full fun _ => rfl) (fun c => enter2 (W5 m) c) (fun c => leave2 (W5 m) c) (fun _ => 0) (cut 2)
    (fun _ => iprop(emp)) (W5 m) (fun c w => dat2_A (W5 m) c w)

set_option backward.isDefEq.respectTransparency.types false in
/-- It is entered from the arrays at `W5`, -/
theorem reg2_pre (c : Dev nD) : iprop(StableHlo.held (c : Thread nD τ) (Pipeline.ucRefs τ sig) (W5 m c) ∗ rest c) ⊢ (reg2 m).pre c := by
  refine BI.Entails.trans ?_ (RegionSeg.ofHeldIn_pre (Pipeline.arrRefs_sub_ucRefs _ winFacts2.arr_unscoped) c)
  exact BI.Entails.refl _

set_option backward.isDefEq.respectTransparency.types false in
/-- and leaves them at `W6`. -/
theorem reg2_post (c : Dev nD) : (reg2 m).post c ⊢ iprop(StableHlo.held (c : Thread nD τ) (Pipeline.ucRefs τ sig) (W6 m c) ∗ rest c) :=
  RegionSeg.ofHeldIn_post (Pipeline.arrRefs_sub_ucRefs _ winFacts2.arr_unscoped) c

/-- A stretch of host operations as a segment, entered from the arrays at `V`. -/
def stretch (ops : List (HloOp τ sig (Elt F))) (sub : ops.Forall fun op => op.bufs ⊆ StableHlo.tcRefs τ sig)
    (fresh : ops.Forall fun op => op.fresh = ∅) (V : Dev nD → Valuation τ sig (Elt F)) :
    HostSeg (Ix := Unit) (Name := ℕ) (U := UR sig nD τ) (Lvl := ℕ) (pcfgs (F := F)) defs₀ Variants.none lvls (fun _ _ => (0 : ℕ)) :=
  HostSeg.ofOps _ _ _ _ _ (Pipeline.ucRefs τ sig) ops (fun op h => Pipeline.sub_ucRefs op (List.forall_iff_forall_mem.mp sub op h))
    (List.forall_iff_forall_mem.mp fresh) V rest

/-- The program's items, in order. -/
def items : List (Seg (pcfgs (F := F)) adm (pdats m) () defs₀ Variants.none lvls (fun _ _ => (0 : ℕ))) :=
  [.host (stretch hostOps0 hostOps0_sub hostOps0_fresh (W0 m)), .region (reg0 m),
    .host (stretch hostOps1 hostOps1_sub hostOps1_fresh (W2 m)), .region (reg1 m),
    .host (stretch hostOps2 hostOps2_sub hostOps2_fresh (W4 m)), .region (reg2 m),
    .host (stretch hostOps3 hostOps3_sub hostOps3_fresh (W6 m))]

/-- The program is the run of its items. -/
theorem main_eq_items (c : Dev nD) : main (F := F) c = Seg.run (items m) := by
  unfold items
  exact main_segs adm (pdats m) () Variants.none lvls _ _ _ _ _ (reg0 m) (reg1 m) (reg2 m) rfl rfl rfl rfl c

/-- The core ends owing nothing. -/
theorem rest_end (c : Dev nD) : (rest c : sProp 𝕄) ⊢ iprop(∃ Wd, owes (c : Thread nD τ) (0 : CellTallies nD τ sig Unit) Wd) := by
  unfold rest
  iintro ⟨H, -⟩
  iexact H

/-- Each item is entered from what the one before it leaves. -/
theorem chains (c : Dev nD) : Seg.ChainsAt c (fun c => iprop(StableHlo.held (c : Thread nD τ) (Pipeline.ucRefs τ sig) (W0 m c) ∗ rest c)) (items m)
    fun c => iprop(StableHlo.held (c : Thread nD τ) (Pipeline.ucRefs τ sig) (W7 m c) ∗ ∃ Wd, owes (c : Thread nD τ) (0 : CellTallies nD τ sig Unit) Wd) :=
  ⟨.rfl, reg0_pre m c, reg0_post m c, reg1_pre m c, reg1_post m c, reg2_pre m c, reg2_post m c, sep_mono .rfl (rest_end c)⟩

/-- No item writes the argument. -/
theorem W7_arg0 (c : Dev nD) : W7 m c main_arg0 = m ((c : Thread nD τ).loc main_arg0) :=
  (StableHlo.after_of_writes_sub hostOps3 _ hostOps3_writes (by decide)).trans <|
  (Pipeline.afterRegion_keeps (dat2 (W5 m) c) (W5 m c) winFacts2.arr_inj (dat2_A (W5 m) c) main_arg0 (by decide)).trans <|
  (StableHlo.after_of_writes_sub hostOps2 _ hostOps2_writes (by decide)).trans <|
  (Pipeline.afterRegion_keeps (dat1 (W3 m) c) (W3 m c) winFacts1.arr_inj (dat1_A (W3 m) c) main_arg0 (by decide)).trans <|
  (StableHlo.after_of_writes_sub hostOps1 _ hostOps1_writes (by decide)).trans <|
  (Pipeline.afterRegion_keeps (dat0 (W1 m) c) (W1 m c) winFacts0.arr_inj (dat0_A (W1 m) c) main_arg0 (by decide)).trans <|
  (StableHlo.after_of_writes_sub hostOps0 _ hostOps0_writes (by decide)).trans rfl

end Contents

/-- The launch's ghost state. -/
def ghost : UR sig nD τ := initOf (Pipeline.cells cfgs cellOf_inj) (Pipeline.launchToks cfgs cellOf_inj)

set_option backward.isDefEq.respectTransparency.types false in
/-- Every execution from memory `m` with zero counters ends, with the result array at `W7`, the argument unchanged and
    every semaphore counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v23) = W7 m c main_v23
        ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj emb₁ defs₀ Variants.none lvls (fun _ _ => (0 : ℕ)) m ρ main
    (fun _ => items m) (fun c Q => by rw [main_eq_items m c])
    (fun c => by simp only [items, Seg.pipes_host, Seg.pipes_region, Seg.pipes_nil]; decide)
    (O₀ := 0) (hL := fun g h => if_neg h) (G := fun _ => iprop(emp)) (u₀ := ghost) (hu₀ := ?_)
    (T₀ := fun c => iprop(StableHlo.held (c : Thread nD τ) (Pipeline.ucRefs τ sig) (W0 m c) ∗ rest c))
    (Tₙ := fun c => StableHlo.held (c : Thread nD τ) (Pipeline.ucRefs τ sig) (W7 m c))
    (hch := chains m)
    (hinit := Pipeline.initEach lvls (fun _ _ => (0 : ℕ)) fun c => ?_)
    (QY := fun c s => s.mem ((c.tc : Thread nD τ).loc main_v23) = W7 m c main_v23
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · iintro Hu
    imodintro
    isplitl [Hu]
    · unfold ghost
      iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (W0 m c)]
    unfold rest
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨h (Proc.devRef .tc main_v23) (Finset.mem_filter.mpr ⟨StableHlo.devRef_mem_tcRefs main_v23, by decide⟩),
        (h (Proc.devRef .tc main_arg0) (Finset.mem_filter.mpr ⟨StableHlo.devRef_mem_tcRefs main_arg0, by decide⟩)).trans (W7_arg0 m c)⟩
    · iexact HSI

end Cert.KernelIdeal.Hand

end
-- ==== Proof.RefRun.lean ====
module

public import proofs.«01_k».proof.ReferenceIdeal
public import proofs.«01_k».proof.Proof.Gen.ReferenceIdeal
public import Idealize.ShloMosaic.Lib.StableHlo.Run

/-! # The reference's run

The reference is a straight line of host operations, listed here stage by stage. Its run leaves every array at the
operations' fold over the arrays at launch. -/

@[expose] public section

set_option maxRecDepth 8192

noncomputable section

namespace Cert.ReferenceIdeal.Hand

open Cert.ReferenceIdeal.Gen
open Idealize.ShloMosaic Idealize.ShloMosaic.TcCoe Idealize.ShloMosaic.StableHlo
open Idealize.SL.Sem

variable {F : FTy → Type} [FloatOps F]

/-- The grayscale image, its minimum and maximum, -/
def grayOps : List (HloOp τ sig (Elt F)) :=
  [ nullary main_cst (fun i => FloatOps.ofBits .f32 (lit0 (S3.rowMajor i))),
    binary main_arg0 main_cst main_v0 ((fun l r => Host.dotGeneral dot_S16x1024x1024x3_S3_S16x1024x1024_3_0_012_n_n_n none l r) : (⟨S16x1024x1024x3, .f32⟩ : BufTy).Contents (Elt F) → (⟨S3, .f32⟩ : BufTy).Contents (Elt F) → (⟨S16x1024x1024, .f32⟩ : BufTy).Contents (Elt F)),
    unary main_v0 main_v1 (broadcastInDim S16x1024x1024x1 ![0, 1, 2] bcast_S16x1024x1024_S16x1024x1024x1_0_1_2 : (⟨S16x1024x1024, .f32⟩ : BufTy).Contents (Elt F) → (⟨S16x1024x1024x1, .f32⟩ : BufTy).Contents (Elt F)),
    reshape main_v1 main_v2 (rfl : (.f32 : EltTy) = .f32) shapeCasts_S16x1024x1024x1_S16777216,
    nullary main_cst_0 (constant S_ .f32 0x7F800000#32),
    binary main_v2 main_cst_0 main_v3 ((fun x v => Host.reduce FloatOps.minimumf x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_1 (constant S_ .f32 0xFF800000#32),
    binary main_v2 main_cst_1 main_v4 ((fun x v => Host.reduce FloatOps.maximumf x v reducesTo_S16777216_S_d0 h_S_) : (⟨S16777216, .f32⟩ : BufTy).Contents (Elt F) → (⟨S_, .f32⟩ : BufTy).Contents (Elt F) → (⟨S_, .f32⟩ : BufTy).Contents (Elt F)) ]

/-- The stage touches arrays of the tensor core only. -/
theorem grayOps_sub : (grayOps : List (HloOp τ sig (Elt F))).Forall fun op => op.bufs ⊆ tcRefs τ sig :=
  ⟨nullary_bufs_sub .., binary_bufs_sub .., unary_bufs_sub .., reshape_bufs_sub .., nullary_bufs_sub .., binary_bufs_sub .., nullary_bufs_sub .., binary_bufs_sub ..⟩

/-- The stage allocates nothing. -/
theorem grayOps_fresh : (grayOps : List (HloOp τ sig (Elt F))).Forall fun op => op.fresh = ∅ := by
  unfold grayOps; simp only [List.Forall]; repeat' constructor

/-- The arrays the stage writes. -/
abbrev grayRefs : List (Ref sig .tc) := [main_cst, main_v0, main_v1, main_v2, main_cst_0, main_v3, main_cst_1, main_v4]

/-- The stage writes no others. -/
theorem grayOps_writes : (grayOps : List (HloOp τ sig (Elt F))).Forall fun op => op.writes ⊆ (grayRefs.map (Proc.devRef (τ := τ) .tc)).toFinset :=
  forall_writes_sub_of_map rfl

/-- the bins' width and every pixel's bin, -/
def binsOps : List (HloOp τ sig (Elt F)) :=
  [ binary main_v4 main_v3 main_v5 (subf : (⟨S_, .f32⟩ : BufTy).Contents (Elt F) → (⟨S_, .f32⟩ : BufTy).Contents (Elt F) → (⟨S_, .f32⟩ : BufTy).Contents (Elt F)),
    nullary main_cst_2 (constant S_ .f32 0x43800000#32),
    binary main_v5 main_cst_2 main_v6 (Host.divf : (⟨S_, .f32⟩ : BufTy).Contents (Elt F) → (⟨S_, .f32⟩ : BufTy).Contents (Elt F) → (⟨S_, .f32⟩ : BufTy).Contents (Elt F)),
    unary main_v3 main_v7 (broadcastInDim S16777216 ![] bcast_S_S16777216 : (⟨S_, .f32⟩ : BufTy).Contents (Elt F) → (⟨S16777216, .f32⟩ : BufTy).Contents (Elt F)),
    binary main_v2 main_v7 main_v8 (subf : (⟨S16777216, .f32⟩ : BufTy).Contents (Elt F) → (⟨S16777216, .f32⟩ : BufTy).Contents (Elt F) → (⟨S16777216, .f32⟩ : BufTy).Contents (Elt F)),
    unary main_v6 main_v9 (broadcastInDim S16777216 ![] bcast_S_S16777216 : (⟨S_, .f32⟩ : BufTy).Contents (Elt F) → (⟨S16777216, .f32⟩ : BufTy).Contents (Elt F)),
    binary main_v8 main_v9 main_v10 (Host.divf : (⟨S16777216, .f32⟩ : BufTy).Contents (Elt F) → (⟨S16777216, .f32⟩ : BufTy).Contents (Elt F) → (⟨S16777216, .f32⟩ : BufTy).Contents (Elt F)),
    unary main_v10 main_v11 (fptosi 32 : (⟨S16777216, .f32⟩ : BufTy).Contents (Elt F) → (⟨S16777216, .i32⟩ : BufTy).Contents (Elt F)),
    nullary main_c (constantI S_ 32 0#32),
    nullary main_c_3 (constantI S_ 32 255#32),
    unary main_c main_call0_v0 id,
    unary main_call0_v0 main_call0_v1 (broadcastInDim S16777216 ![] bcast_S_S16777216),
    binary main_call0_v1 main_v11 main_call0_v2 maxsi,
    unary main_c_3 main_call0_v3 id,
    unary main_call0_v3 main_call0_v4 (broadcastInDim S16777216 ![] bcast_S_S16777216),
    binary main_call0_v4 main_call0_v2 main_v12 minsi ]

/-- The stage touches arrays of the tensor core only. -/
theorem binsOps_sub : (binsOps : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩

/-- The stage allocates nothing. -/
theorem binsOps_fresh : (binsOps : List (HloOp τ sig (Elt F))).Forall fun op => op.fresh = ∅ := by
  unfold binsOps; simp only [List.Forall]; repeat' constructor

/-- The arrays the stage writes. -/
abbrev binsRefs : List (Ref sig .tc) := [main_v5, main_cst_2, main_v6, main_v7, main_v8, main_v9, main_v10, main_v11, main_c, main_c_3, main_call0_v0, main_call0_v1, main_call0_v2, main_call0_v3, main_call0_v4, main_v12]

/-- The stage writes no others. -/
theorem binsOps_writes : (binsOps : List (HloOp τ sig (Elt F))).Forall fun op => op.writes ⊆ (binsRefs.map (Proc.devRef (τ := τ) .tc)).toFinset :=
  forall_writes_sub_of_map rfl

/-- how many pixels each bin holds, -/
def countsOps : List (HloOp τ sig (Elt F)) :=
  [ nullary main_cst_4 (constant S_ .f32 0x00000000#32),
    unary main_cst_4 main_v13 (broadcastInDim S256 ![] bcast_S_S256 : (⟨S_, .f32⟩ : BufTy).Contents (Elt F) → (⟨S256, .f32⟩ : BufTy).Contents (Elt F)),
    nullary main_c_5 (constantI S_ 32 0#32),
    unary main_c_5 main_v14 (broadcastInDim S16777216 ![] bcast_S_S16777216 : (⟨S_, .i32⟩ : BufTy).Contents (Elt F) → (⟨S16777216, .i32⟩ : BufTy).Contents (Elt F)),
    binary main_v12 main_v14 main_v15 (cmpi .slt : (⟨S16777216, .i32⟩ : BufTy).Contents (Elt F) → (⟨S16777216, .i32⟩ : BufTy).Contents (Elt F) → (⟨S16777216, .i1⟩ : BufTy).Contents (Elt F)),
    nullary main_c_6 (constantI S_ 32 256#32),
    unary main_c_6 main_v16 (broadcastInDim S16777216 ![] bcast_S_S16777216 : (⟨S_, .i32⟩ : BufTy).Contents (Elt F) → (⟨S16777216, .i32⟩ : BufTy).Contents (Elt F)),
    binary main_v12 main_v16 main_v17 (addi : (⟨S16777216, .i32⟩ : BufTy).Contents (Elt F) → (⟨S16777216, .i32⟩ : BufTy).Contents (Elt F) → (⟨S16777216, .i32⟩ : BufTy).Contents (Elt F)),
    ternary main_v15 main_v17 main_v12 main_v18 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v18 main_v19 (broadcastInDim S16777216x1 ![0] bcast_S16777216_S16777216x1_0 : (⟨S16777216, .i32⟩ : BufTy).Contents (Elt F) → (⟨S16777216x1, .i32⟩ : BufTy).Contents (Elt F)),
    nullary main_cst_7 (constant S_ .f32 0x3F800000#32),
    unary main_cst_7 main_v20 (broadcastInDim S16777216 ![] bcast_S_S16777216 : (⟨S_, .f32⟩ : BufTy).Contents (Elt F) → (⟨S16777216, .f32⟩ : BufTy).Contents (Elt F)),
    ternary main_v13 main_v19 main_v20 main_v21 ((fun x i u => Host.scatterAdd scatter_S256_S16777216x1_S16777216_n_0_0_1 x i u) : (⟨S256, .f32⟩ : BufTy).Contents (Elt F) → (⟨S16777216x1, .i32⟩ : BufTy).Contents (Elt F) → (⟨S16777216, .f32⟩ : BufTy).Contents (Elt F) → (⟨S256, .f32⟩ : BufTy).Contents (Elt F)) ]

/-- The stage touches arrays of the tensor core only. -/
theorem countsOps_sub : (countsOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- The stage allocates nothing. -/
theorem countsOps_fresh : (countsOps : List (HloOp τ sig (Elt F))).Forall fun op => op.fresh = ∅ := by
  unfold countsOps; simp only [List.Forall]; repeat' constructor

/-- The arrays the stage writes. -/
abbrev countsRefs : List (Ref sig .tc) := [main_cst_4, main_v13, main_c_5, main_v14, main_v15, main_c_6, main_v16, main_v17, main_v18, main_v19, main_cst_7, main_v20, main_v21]

/-- The stage writes no others. -/
theorem countsOps_writes : (countsOps : List (HloOp τ sig (Elt F))).Forall fun op => op.writes ⊆ (countsRefs.map (Proc.devRef (τ := τ) .tc)).toFinset :=
  forall_writes_sub_of_map rfl

/-- the bins' centers, -/
def centersOps : List (HloOp τ sig (Elt F)) :=
  [ nullary main_v22 (sitofp .f32 (iotaInDim S256 32 0)),
    nullary main_cst_8 (constant S_ .f32 0x3F000000#32),
    unary main_cst_8 main_v23 (broadcastInDim S256 ![] bcast_S_S256 : (⟨S_, .f32⟩ : BufTy).Contents (Elt F) → (⟨S256, .f32⟩ : BufTy).Contents (Elt F)),
    binary main_v22 main_v23 main_v24 (addf : (⟨S256, .f32⟩ : BufTy).Contents (Elt F) → (⟨S256, .f32⟩ : BufTy).Contents (Elt F) → (⟨S256, .f32⟩ : BufTy).Contents (Elt F)),
    unary main_v6 main_v25 (broadcastInDim S256 ![] bcast_S_S256 : (⟨S_, .f32⟩ : BufTy).Contents (Elt F) → (⟨S256, .f32⟩ : BufTy).Contents (Elt F)),
    binary main_v25 main_v24 main_v26 (mulf : (⟨S256, .f32⟩ : BufTy).Contents (Elt F) → (⟨S256, .f32⟩ : BufTy).Contents (Elt F) → (⟨S256, .f32⟩ : BufTy).Contents (Elt F)),
    unary main_v3 main_v27 (broadcastInDim S256 ![] bcast_S_S256 : (⟨S_, .f32⟩ : BufTy).Contents (Elt F) → (⟨S256, .f32⟩ : BufTy).Contents (Elt F)),
    binary main_v27 main_v26 main_v28 (addf : (⟨S256, .f32⟩ : BufTy).Contents (Elt F) → (⟨S256, .f32⟩ : BufTy).Contents (Elt F) → (⟨S256, .f32⟩ : BufTy).Contents (Elt F)) ]

/-- The stage touches arrays of the tensor core only. -/
theorem centersOps_sub : (centersOps : List (HloOp τ sig (Elt F))).Forall fun op => op.bufs ⊆ tcRefs τ sig :=
  ⟨nullary_bufs_sub .., nullary_bufs_sub .., unary_bufs_sub .., binary_bufs_sub .., unary_bufs_sub .., binary_bufs_sub .., unary_bufs_sub .., binary_bufs_sub ..⟩

/-- The stage allocates nothing. -/
theorem centersOps_fresh : (centersOps : List (HloOp τ sig (Elt F))).Forall fun op => op.fresh = ∅ := by
  unfold centersOps; simp only [List.Forall]; repeat' constructor

/-- The arrays the stage writes. -/
abbrev centersRefs : List (Ref sig .tc) := [main_v22, main_cst_8, main_v23, main_v24, main_v25, main_v26, main_v27, main_v28]

/-- The stage writes no others. -/
theorem centersOps_writes : (centersOps : List (HloOp τ sig (Elt F))).Forall fun op => op.writes ⊆ (centersRefs.map (Proc.devRef (τ := τ) .tc)).toFinset :=
  forall_writes_sub_of_map rfl

/-- the sums of the counts and of the counts times the centers, from below and from above, and the means, -/
def sumsOps : List (HloOp τ sig (Elt F)) :=
  [ nullary main_call1_call0_cst (constant S_ .f32 0x00000000#32),
    unary main_call1_call0_cst main_call1_call0_v0 (broadcastInDim S_ ![] bcast_S_S_),
    binary main_v21 main_call1_call0_v0 main_v29 (fun x v => Host.reduceWindowAdd ![256] ![1] ![255] ![0] x v reduceWindows_S256_S256_w256s1p255_0 h_S_),
    unary main_v21 main_v30 (Host.reverse [0] : (⟨S256, .f32⟩ : BufTy).Contents (Elt F) → (⟨S256, .f32⟩ : BufTy).Contents (Elt F)),
    nullary main_call2_call0_cst (constant S_ .f32 0x00000000#32),
    unary main_call2_call0_cst main_call2_call0_v0 (broadcastInDim S_ ![] bcast_S_S_),
    binary main_v30 main_call2_call0_v0 main_v31 (fun x v => Host.reduceWindowAdd ![256] ![1] ![255] ![0] x v reduceWindows_S256_S256_w256s1p255_0 h_S_),
    unary main_v31 main_v32 (Host.reverse [0] : (⟨S256, .f32⟩ : BufTy).Contents (Elt F) → (⟨S256, .f32⟩ : BufTy).Contents (Elt F)),
    binary main_v21 main_v28 main_v33 (mulf : (⟨S256, .f32⟩ : BufTy).Contents (Elt F) → (⟨S256, .f32⟩ : BufTy).Contents (Elt F) → (⟨S256, .f32⟩ : BufTy).Contents (Elt F)),
    nullary main_call3_call0_cst (constant S_ .f32 0x00000000#32),
    unary main_call3_call0_cst main_call3_call0_v0 (broadcastInDim S_ ![] bcast_S_S_),
    binary main_v33 main_call3_call0_v0 main_v34 (fun x v => Host.reduceWindowAdd ![256] ![1] ![255] ![0] x v reduceWindows_S256_S256_w256s1p255_0 h_S_),
    binary main_v21 main_v28 main_v35 (mulf : (⟨S256, .f32⟩ : BufTy).Contents (Elt F) → (⟨S256, .f32⟩ : BufTy).Contents (Elt F) → (⟨S256, .f32⟩ : BufTy).Contents (Elt F)),
    unary main_v35 main_v36 (Host.reverse [0] : (⟨S256, .f32⟩ : BufTy).Contents (Elt F) → (⟨S256, .f32⟩ : BufTy).Contents (Elt F)),
    nullary main_call4_call0_cst (constant S_ .f32 0x00000000#32),
    unary main_call4_call0_cst main_call4_call0_v0 (broadcastInDim S_ ![] bcast_S_S_),
    binary main_v36 main_call4_call0_v0 main_v37 (fun x v => Host.reduceWindowAdd ![256] ![1] ![255] ![0] x v reduceWindows_S256_S256_w256s1p255_0 h_S_),
    unary main_v37 main_v38 (Host.reverse [0] : (⟨S256, .f32⟩ : BufTy).Contents (Elt F) → (⟨S256, .f32⟩ : BufTy).Contents (Elt F)),
    nullary main_cst_9 (constant S_ .f32 0x3F800000#32),
    unary main_cst_9 main_v39 (broadcastInDim S256 ![] bcast_S_S256 : (⟨S_, .f32⟩ : BufTy).Contents (Elt F) → (⟨S256, .f32⟩ : BufTy).Contents (Elt F)),
    binary main_v29 main_v39 main_v40 (maximumf : (⟨S256, .f32⟩ : BufTy).Contents (Elt F) → (⟨S256, .f32⟩ : BufTy).Contents (Elt F) → (⟨S256, .f32⟩ : BufTy).Contents (Elt F)),
    binary main_v34 main_v40 main_v41 (Host.divf : (⟨S256, .f32⟩ : BufTy).Contents (Elt F) → (⟨S256, .f32⟩ : BufTy).Contents (Elt F) → (⟨S256, .f32⟩ : BufTy).Contents (Elt F)),
    nullary main_cst_10 (constant S_ .f32 0x3F800000#32),
    unary main_cst_10 main_v42 (broadcastInDim S256 ![] bcast_S_S256 : (⟨S_, .f32⟩ : BufTy).Contents (Elt F) → (⟨S256, .f32⟩ : BufTy).Contents (Elt F)),
    binary main_v32 main_v42 main_v43 (maximumf : (⟨S256, .f32⟩ : BufTy).Contents (Elt F) → (⟨S256, .f32⟩ : BufTy).Contents (Elt F) → (⟨S256, .f32⟩ : BufTy).Contents (Elt F)),
    binary main_v38 main_v43 main_v44 (Host.divf : (⟨S256, .f32⟩ : BufTy).Contents (Elt F) → (⟨S256, .f32⟩ : BufTy).Contents (Elt F) → (⟨S256, .f32⟩ : BufTy).Contents (Elt F)) ]

/-- The stage touches arrays of the tensor core only. -/
theorem sumsOps_sub : (sumsOps : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub ..⟩

/-- The stage allocates nothing. -/
theorem sumsOps_fresh : (sumsOps : List (HloOp τ sig (Elt F))).Forall fun op => op.fresh = ∅ := by
  unfold sumsOps; simp only [List.Forall]; repeat' constructor

/-- The arrays the stage writes. -/
abbrev sumsRefs : List (Ref sig .tc) := [main_call1_call0_cst, main_call1_call0_v0, main_v29, main_v30, main_call2_call0_cst, main_call2_call0_v0, main_v31, main_v32, main_v33, main_call3_call0_cst, main_call3_call0_v0, main_v34, main_v35, main_v36, main_call4_call0_cst, main_call4_call0_v0, main_v37, main_v38, main_cst_9, main_v39, main_v40, main_v41, main_cst_10, main_v42, main_v43, main_v44]

/-- The stage writes no others. -/
theorem sumsOps_writes : (sumsOps : List (HloOp τ sig (Elt F))).Forall fun op => op.writes ⊆ (sumsRefs.map (Proc.devRef (τ := τ) .tc)).toFinset :=
  forall_writes_sub_of_map rfl

/-- the variance between the classes at each split, -/
def scoresOps : List (HloOp τ sig (Elt F)) :=
  [ unary main_v29 main_v45 ((extractStridedSlice S255 ![0] · slices_S256_S255_0) : (⟨S256, .f32⟩ : BufTy).Contents (Elt F) → (⟨S255, .f32⟩ : BufTy).Contents (Elt F)),
    unary main_v32 main_v46 ((extractStridedSlice S255 ![1] · slices_S256_S255_1) : (⟨S256, .f32⟩ : BufTy).Contents (Elt F) → (⟨S255, .f32⟩ : BufTy).Contents (Elt F)),
    binary main_v45 main_v46 main_v47 (mulf : (⟨S255, .f32⟩ : BufTy).Contents (Elt F) → (⟨S255, .f32⟩ : BufTy).Contents (Elt F) → (⟨S255, .f32⟩ : BufTy).Contents (Elt F)),
    unary main_v41 main_v48 ((extractStridedSlice S255 ![0] · slices_S256_S255_0) : (⟨S256, .f32⟩ : BufTy).Contents (Elt F) → (⟨S255, .f32⟩ : BufTy).Contents (Elt F)),
    unary main_v44 main_v49 ((extractStridedSlice S255 ![1] · slices_S256_S255_1) : (⟨S256, .f32⟩ : BufTy).Contents (Elt F) → (⟨S255, .f32⟩ : BufTy).Contents (Elt F)),
    binary main_v48 main_v49 main_v50 (subf : (⟨S255, .f32⟩ : BufTy).Contents (Elt F) → (⟨S255, .f32⟩ : BufTy).Contents (Elt F) → (⟨S255, .f32⟩ : BufTy).Contents (Elt F)),
    binary main_v50 main_v50 main_v51 (mulf : (⟨S255, .f32⟩ : BufTy).Contents (Elt F) → (⟨S255, .f32⟩ : BufTy).Contents (Elt F) → (⟨S255, .f32⟩ : BufTy).Contents (Elt F)),
    binary main_v47 main_v51 main_v52 (mulf : (⟨S255, .f32⟩ : BufTy).Contents (Elt F) → (⟨S255, .f32⟩ : BufTy).Contents (Elt F) → (⟨S255, .f32⟩ : BufTy).Contents (Elt F)) ]

/-- The stage touches arrays of the tensor core only. -/
theorem scoresOps_sub : (scoresOps : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub ..⟩

/-- The stage allocates nothing. -/
theorem scoresOps_fresh : (scoresOps : List (HloOp τ sig (Elt F))).Forall fun op => op.fresh = ∅ := by
  unfold scoresOps; simp only [List.Forall]; repeat' constructor

/-- The arrays the stage writes. -/
abbrev scoresRefs : List (Ref sig .tc) := [main_v45, main_v46, main_v47, main_v48, main_v49, main_v50, main_v51, main_v52]

/-- The stage writes no others. -/
theorem scoresOps_writes : (scoresOps : List (HloOp τ sig (Elt F))).Forall fun op => op.writes ⊆ (scoresRefs.map (Proc.devRef (τ := τ) .tc)).toFinset :=
  forall_writes_sub_of_map rfl

/-- the first bin at which it is largest, -/
def bestOps : List (HloOp τ sig (Elt F)) :=
  [ nullary main_call5_v0 (iotaInDim S255 32 0),
    nullary main_call5_cst (constant S_ .f32 0xFF800000#32),
    nullary main_call5_c (constantI S_ 32 0#32),
    quaternary main_v52 main_call5_v0 main_call5_cst main_call5_c main_call5_v1_0 (fun x y u v j => (Host.argReduce reducer_argmax_f32_i32 x y u v reducesTo_S255_S_d0 h_S_ j).1),
    quaternary main_v52 main_call5_v0 main_call5_cst main_call5_c main_v53 (fun x y u v j => (Host.argReduce reducer_argmax_f32_i32 x y u v reducesTo_S255_S_d0 h_S_ j).2) ]

/-- The stage touches arrays of the tensor core only. -/
theorem bestOps_sub : (bestOps : List (HloOp τ sig (Elt F))).Forall fun op => op.bufs ⊆ tcRefs τ sig :=
  ⟨nullary_bufs_sub .., nullary_bufs_sub .., nullary_bufs_sub .., quaternary_bufs_sub .., quaternary_bufs_sub ..⟩

/-- The stage allocates nothing. -/
theorem bestOps_fresh : (bestOps : List (HloOp τ sig (Elt F))).Forall fun op => op.fresh = ∅ := by
  unfold bestOps; simp only [List.Forall]; repeat' constructor

/-- The arrays the stage writes. -/
abbrev bestRefs : List (Ref sig .tc) := [main_call5_v0, main_call5_cst, main_call5_c, main_call5_v1_0, main_v53]

/-- The stage writes no others. -/
theorem bestOps_writes : (bestOps : List (HloOp τ sig (Elt F))).Forall fun op => op.writes ⊆ (bestRefs.map (Proc.devRef (τ := τ) .tc)).toFinset :=
  forall_writes_sub_of_map rfl

/-- that bin's center, -/
def pickOps : List (HloOp τ sig (Elt F)) :=
  [ nullary main_c_11 (constantI S_ 32 0#32),
    binary main_v53 main_c_11 main_v54 (cmpi .slt : (⟨S_, .i32⟩ : BufTy).Contents (Elt F) → (⟨S_, .i32⟩ : BufTy).Contents (Elt F) → (⟨S_, .i1⟩ : BufTy).Contents (Elt F)),
    nullary main_c_12 (constantI S_ 32 256#32),
    binary main_v53 main_c_12 main_v55 (addi : (⟨S_, .i32⟩ : BufTy).Contents (Elt F) → (⟨S_, .i32⟩ : BufTy).Contents (Elt F) → (⟨S_, .i32⟩ : BufTy).Contents (Elt F)),
    ternary main_v54 main_v55 main_v53 main_v56 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v28 ![main_v56] ⟨S_, .i32⟩ main_v57 ((fun x i => Host.dynamicSlice S1 x (fun k => (i k (Shape.Idx.first h_S_)).toInt) sliceFits_S256_S1) : (⟨S256, .f32⟩ : BufTy).Contents (Elt F) → (Fin 1 → (⟨S_, .i32⟩ : BufTy).Contents (Elt F)) → (⟨S1, .f32⟩ : BufTy).Contents (Elt F)),
    reshape main_v57 main_v58 (rfl : (.f32 : EltTy) = .f32) shapeCasts_S1_S_ ]

/-- The stage touches arrays of the tensor core only. -/
theorem pickOps_sub : (pickOps : List (HloOp τ sig (Elt F))).Forall fun op => op.bufs ⊆ tcRefs τ sig :=
  ⟨nullary_bufs_sub .., binary_bufs_sub .., nullary_bufs_sub .., binary_bufs_sub .., ternary_bufs_sub .., unaryIndexed_bufs_sub .., reshape_bufs_sub ..⟩

/-- The stage allocates nothing. -/
theorem pickOps_fresh : (pickOps : List (HloOp τ sig (Elt F))).Forall fun op => op.fresh = ∅ := by
  unfold pickOps; simp only [List.Forall]; repeat' constructor

/-- The arrays the stage writes. -/
abbrev pickRefs : List (Ref sig .tc) := [main_c_11, main_v54, main_c_12, main_v55, main_v56, main_v57, main_v58]

/-- The stage writes no others. -/
theorem pickOps_writes : (pickOps : List (HloOp τ sig (Elt F))).Forall fun op => op.writes ⊆ (pickRefs.map (Proc.devRef (τ := τ) .tc)).toFinset :=
  forall_writes_sub_of_map rfl

/-- and the comparison. -/
def compareOps : List (HloOp τ sig (Elt F)) :=
  [ unary main_v58 main_v59 (broadcastInDim S16x1024x1024x1 ![] bcast_S_S16x1024x1024x1 : (⟨S_, .f32⟩ : BufTy).Contents (Elt F) → (⟨S16x1024x1024x1, .f32⟩ : BufTy).Contents (Elt F)),
    binary main_v1 main_v59 main_v60 (cmpf .ogt : (⟨S16x1024x1024x1, .f32⟩ : BufTy).Contents (Elt F) → (⟨S16x1024x1024x1, .f32⟩ : BufTy).Contents (Elt F) → (⟨S16x1024x1024x1, .i1⟩ : BufTy).Contents (Elt F)),
    nullary main_cst_13 (constant S_ .f32 0x3F800000#32),
    nullary main_cst_14 (constant S_ .f32 0x00000000#32),
    unary main_cst_13 main_call6_v0 (broadcastInDim S16x1024x1024x1 ![] bcast_S_S16x1024x1024x1),
    unary main_cst_14 main_call6_v1 (broadcastInDim S16x1024x1024x1 ![] bcast_S_S16x1024x1024x1),
    ternary main_v60 main_call6_v0 main_call6_v1 main_v61 select,
    unary main_v61 main_v62 (id : (⟨S16x1024x1024x1, .f32⟩ : BufTy).Contents (Elt F) → (⟨S16x1024x1024x1, .f32⟩ : BufTy).Contents (Elt F)) ]

/-- The stage touches arrays of the tensor core only. -/
theorem compareOps_sub : (compareOps : List (HloOp τ sig (Elt F))).Forall fun op => op.bufs ⊆ tcRefs τ sig :=
  ⟨unary_bufs_sub .., binary_bufs_sub .., nullary_bufs_sub .., nullary_bufs_sub .., unary_bufs_sub .., unary_bufs_sub .., ternary_bufs_sub .., unary_bufs_sub ..⟩

/-- The stage allocates nothing. -/
theorem compareOps_fresh : (compareOps : List (HloOp τ sig (Elt F))).Forall fun op => op.fresh = ∅ := by
  unfold compareOps; simp only [List.Forall]; repeat' constructor

/-- The arrays the stage writes. -/
abbrev compareRefs : List (Ref sig .tc) := [main_v59, main_v60, main_cst_13, main_cst_14, main_call6_v0, main_call6_v1, main_v61, main_v62]

/-- The stage writes no others. -/
theorem compareOps_writes : (compareOps : List (HloOp τ sig (Elt F))).Forall fun op => op.writes ⊆ (compareRefs.map (Proc.devRef (τ := τ) .tc)).toFinset :=
  forall_writes_sub_of_map rfl

/-- All of the reference's operations. -/
def allOps : List (HloOp τ sig (Elt F)) := grayOps ++ (binsOps ++ (countsOps ++ (centersOps ++ (sumsOps ++ (scoresOps ++ (bestOps ++ (pickOps ++ compareOps)))))))

set_option maxHeartbeats 1000000 in
/-- The reference is that straight line. -/
theorem main_eq (c : Dev nD) : main (F := F) c = seq allOps := by
  unfold allOps
  simp only [main, main_part0, main_part1, fn_clip.body, fn_cumsum.body, fn_cumsum_0.body, fn_argmax.body, fn_where.body,
    bind_assoc, pure_bind, grayOps, binsOps, countsOps, centersOps, sumsOps, scoresOps, bestOps, pickOps, compareOps, List.cons_append, List.nil_append, seq]
  rfl

/-- All the operations touch arrays of the tensor core only. -/
theorem allOps_sub : (allOps : List (HloOp τ sig (Elt F))).Forall fun op => op.bufs ⊆ tcRefs τ sig := by
  unfold allOps
  simp only [List.forall_append]
  exact ⟨grayOps_sub, binsOps_sub, countsOps_sub, centersOps_sub, sumsOps_sub, scoresOps_sub, bestOps_sub, pickOps_sub, compareOps_sub⟩

/-- None of them allocates. -/
theorem allOps_fresh : (allOps : List (HloOp τ sig (Elt F))).Forall fun op => op.fresh = ∅ := by
  unfold allOps
  simp only [List.forall_append]
  exact ⟨grayOps_fresh, binsOps_fresh, countsOps_fresh, centersOps_fresh, sumsOps_fresh, scoresOps_fresh, bestOps_fresh, pickOps_fresh, compareOps_fresh⟩

/-- Every execution ends with every array at the operations' fold over the arrays at launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allOps (launchContents m c) (Proc.devRef .tc b) :=
  run_seq (by decide) (by decide) defs main (fun _ => allOps) main_eq (fun _ => allOps_sub) m ρ
    (fun _ => List.forall_iff_forall_mem.mp allOps_fresh)

/-- The fold of one list after another. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-- No operation writes the argument. -/
theorem allOps_arg0 (V : Valuation τ sig (Elt F)) : after allOps V (Proc.devRef .tc main_arg0) = V (Proc.devRef .tc main_arg0) := by
  unfold allOps
  simp only [after_two]
  rw [after_of_writes_sub compareOps _ compareOps_writes (by decide)]
  rw [after_of_writes_sub pickOps _ pickOps_writes (by decide)]
  rw [after_of_writes_sub bestOps _ bestOps_writes (by decide)]
  rw [after_of_writes_sub scoresOps _ scoresOps_writes (by decide)]
  rw [after_of_writes_sub sumsOps _ sumsOps_writes (by decide)]
  rw [after_of_writes_sub centersOps _ centersOps_writes (by decide)]
  rw [after_of_writes_sub countsOps _ countsOps_writes (by decide)]
  rw [after_of_writes_sub binsOps _ binsOps_writes (by decide)]
  rw [after_of_writes_sub grayOps _ grayOps_writes (by decide)]

end Cert.ReferenceIdeal.Hand

end
-- ==== Proof.Transport.lean ====
module
public import proofs.«01_k».proof.Kernel
public import proofs.«01_k».proof.KernelIdeal
public import proofs.«01_k».proof.Proof.Gen.Kernel.Launch
public import proofs.«01_k».proof.Proof.Gen.KernelIdeal.Launch
public import proofs.«01_k».proof.Defs
public import Idealize.ShloMosaic.PureOps.BitExact

/-! # The kernel as printed is the idealized one, read at the machine's words

The idealized program differs from the kernel in three constants only, which it names. Where a name means the word it
stands for, the two programs are the same, so a run of the idealized program that is proved for any floats is a run of
the kernel. -/

@[expose] public section

set_option maxHeartbeats 1000000

noncomputable section

namespace Cert.Transport

open Idealize.ShloMosaic

/-- At the machine's words a named constant is its word. -/
instance : Named Bits where
  named _ _ _ b := FloatOps.ofBits _ b

/-- The first call's window of its body, -/
theorem k0_part1_eq : @Cert.Kernel.k0_part1 Bits _ Cert.Kernel.Gen.facts = @Cert.KernelIdeal.k0_part1 Bits _ _ Cert.KernelIdeal.Gen.facts := by
  unfold Cert.Kernel.k0_part1 Cert.KernelIdeal.k0_part1
  rfl

/-- the second call's first -/
theorem k1_part1_eq : @Cert.Kernel.k1_part1 Bits _ Cert.Kernel.Gen.facts = @Cert.KernelIdeal.k1_part1 Bits _ Cert.KernelIdeal.Gen.facts := by
  unfold Cert.Kernel.k1_part1 Cert.KernelIdeal.k1_part1
  rfl

/-- and second, -/
theorem k1_part2_eq : @Cert.Kernel.k1_part2 Bits _ Cert.Kernel.Gen.facts = @Cert.KernelIdeal.k1_part2 Bits _ Cert.KernelIdeal.Gen.facts := by
  unfold Cert.Kernel.k1_part2 Cert.KernelIdeal.k1_part2
  rfl

/-- and the third's are the same. -/
theorem k2_part1_eq : @Cert.Kernel.k2_part1 Bits _ Cert.Kernel.Gen.facts = @Cert.KernelIdeal.k2_part1 Bits _ Cert.KernelIdeal.Gen.facts := by
  unfold Cert.Kernel.k2_part1 Cert.KernelIdeal.k2_part1
  rfl

/-- So are the first call's body, -/
theorem cc0_eq : @Cert.Kernel.cc0_gray_minmax Bits _ Cert.Kernel.Gen.facts = @Cert.KernelIdeal.cc0_gray_minmax Bits _ _ Cert.KernelIdeal.Gen.facts := by
  unfold Cert.Kernel.cc0_gray_minmax Cert.KernelIdeal.cc0_gray_minmax
  rw [k0_part1_eq]
  rfl

/-- the second's -/
theorem cc1_eq : @Cert.Kernel.cc1_hist256 Bits _ Cert.Kernel.Gen.facts = @Cert.KernelIdeal.cc1_hist256 Bits _ Cert.KernelIdeal.Gen.facts := by
  unfold Cert.Kernel.cc1_hist256 Cert.KernelIdeal.cc1_hist256
  rw [k1_part1_eq, k1_part2_eq]
  rfl

/-- and the third's. -/
theorem cc2_eq : @Cert.Kernel.cc2_otsu_binarize Bits _ Cert.Kernel.Gen.facts = @Cert.KernelIdeal.cc2_otsu_binarize Bits _ Cert.KernelIdeal.Gen.facts := by
  unfold Cert.Kernel.cc2_otsu_binarize Cert.KernelIdeal.cc2_otsu_binarize
  rw [k2_part1_eq]
  rfl

/-- The pipelines are the same, -/
theorem cfgs_eq : Cert.Kernel.cfgs = Cert.KernelIdeal.cfgs := rfl

/-- the bodies' table is, -/
theorem defs₀_eq : @Cert.Kernel.defs₀ Bits _ Cert.Kernel.Gen.facts = @Cert.KernelIdeal.defs₀ Bits _ _ Cert.KernelIdeal.Gen.facts := by
  unfold Cert.Kernel.defs₀ Cert.KernelIdeal.defs₀
  refine congrArg (@Defs.onTc Cert.KernelIdeal.nD Cert.KernelIdeal.τ Cert.KernelIdeal.sig (Elt Bits) Cert.KernelIdeal.Λ₀) ?_
  rw [cc0_eq, cc1_eq, cc2_eq]
  funext l a
  match l, a with
  | 0, (t, s) => rfl
  | 1, (t, s) => rfl
  | 2, (t, s) => rfl

/-- the table with the pipelines is, -/
theorem defs_eq : @Cert.Kernel.defs Bits _ Cert.Kernel.Gen.facts = @Cert.KernelIdeal.defs Bits _ _ Cert.KernelIdeal.Gen.facts := by
  unfold Cert.Kernel.defs Cert.KernelIdeal.defs
  rw [defs₀_eq]
  rfl

/-- the host operations before the first call are, -/
theorem h0 : @Cert.Kernel.Gen.hostOps0 Bits = @Cert.KernelIdeal.Gen.hostOps0 Bits := rfl

/-- those after it, -/
theorem h1 : @Cert.Kernel.Gen.hostOps1 Bits _ = @Cert.KernelIdeal.Gen.hostOps1 Bits _ := rfl

/-- those after the second call, -/
theorem h2 : @Cert.Kernel.Gen.hostOps2 Bits _ = @Cert.KernelIdeal.Gen.hostOps2 Bits _ := rfl

/-- and those after the third. -/
theorem h3 : @Cert.Kernel.Gen.hostOps3 Bits = @Cert.KernelIdeal.Gen.hostOps3 Bits := rfl

/-- So the two programs are the same. -/
theorem main_eq : @Cert.Kernel.main Bits _ Cert.Kernel.Gen.facts = @Cert.KernelIdeal.main Bits _ Cert.KernelIdeal.Gen.facts := by
  funext c
  refine (Cert.Kernel.Gen.main_chain c).trans (Eq.trans ?_ (Cert.KernelIdeal.Gen.main_chain c).symm)
  rw [h0, h1, h2, h3]
  rfl

/-- What is proved of the idealized program's runs at the machine's words holds of the kernel's. -/
theorem transport
  (h : ∀ (m : (ℓ : Loc Cert.KernelIdeal.nD Cert.KernelIdeal.τ Cert.KernelIdeal.sig) → Buf (Elt Bits) ℓ) (ρ : Dev Cert.KernelIdeal.nD → PrngReg),
    θ_run (@Cert.KernelIdeal.defs Bits _ _ Cert.KernelIdeal.Gen.facts) (onTc (τ := Cert.KernelIdeal.τ) (@Cert.KernelIdeal.main Bits _ Cert.KernelIdeal.Gen.facts)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)) : @Cert.quiescent_Kernel Cert.Kernel.Gen.facts := by
  intro m ρ _
  rw [main_eq, defs_eq]
  exact h m ρ
end Cert.Transport
end
end
-- ==== Proof.Frames.lean ====
module

public import proofs.«01_k».proof.Defs
public import proofs.«01_k».proof.Proof.Run
public import proofs.«01_k».proof.Proof.RefRun
public import proofs.«01_k».proof.Proof.Transport
public import Idealize.ShloMosaic.PureOps.IdealRules

/-! # The frames, and the idealization

Each program ends, leaves its argument unchanged and every semaphore counter at zero; and the idealized kernel is the
kernel with three constants named. -/

@[expose] public section

noncomputable section

namespace Cert.Proof

open Idealize.ShloMosaic Idealize.SL.Sem

/-- The kernel's frame: the generic run, read at the machine's words. -/
theorem frame_kernel : @Cert.quiescent_Kernel Cert.Kernel.Gen.facts :=
  Cert.Transport.transport fun m ρ =>
    (θ_run _ _ _).mono (fun _ h => ⟨fun c => (h.1 c).2, h.2⟩) (Cert.KernelIdeal.Hand.run (F := Bits) m ρ)

/-- The idealized kernel's frame: the generic run at the extended reals. -/
theorem frame_ideal : @Cert.quiescent_KernelIdeal Cert.KernelIdeal.Gen.facts := fun m ρ _ =>
  (θ_run _ _ _).mono (fun _ h => ⟨fun c => (h.1 c).2, h.2⟩) (Cert.KernelIdeal.Hand.run (F := Ideal) m ρ)

/-- The reference's frame. It declares no semaphore. -/
theorem frame_reference : @Cert.quiescent_ReferenceIdeal Cert.ReferenceIdeal.Gen.facts := fun m ρ _ =>
  (θ_run _ _ _).mono
    (fun r h => ⟨fun c => (h c Cert.ReferenceIdeal.main_arg0).trans (Cert.ReferenceIdeal.Hand.allOps_arg0 _), sem_eq_zero_of_no_sems (by decide) r.2⟩)
    (Cert.ReferenceIdeal.Hand.run (F := Ideal) m ρ)

/-- The three named constants are the constants they stand for. -/
theorem preserves : Cert.preserves_Kernel_KernelIdeal :=
  ⟨IdealRules.named_const.statement _ _ _ _ _ rfl, IdealRules.named_const.statement _ _ _ _ _ rfl, IdealRules.named_const.statement _ _ _ _ _ rfl⟩

end Cert.Proof

end
-- ==== Proof.Otsu.lean ====
/- The mathematics of the threshold, apart from any program: two ways of cutting a histogram of 256 bins into two classes,
   and the bin center each of them picks. One way takes the upper class's sums as total minus lower sum plus the bin itself,
   masks the last bin, and takes the least center among the bins of greatest score; the other sums the upper class directly and takes
   the center of the first of the first 255 bins of greatest score. -/
module

public import Idealize.ShloMosaic.PureOps.Ideal.Laws

@[expose] public section

noncomputable section

open Idealize.ShloMosaic
open scoped BigOperators

namespace Cert.Otsu

/-- The width of a bin. -/
def width (mn mx : EReal) : EReal := Ideal.div (mx - mn) ((256 : ℝ) : EReal)

/-- The center of bin `b`. -/
def center (mn mx : EReal) (b : Fin 256) : EReal := mn + width mn mx * (((b.val : ℝ) : EReal) + ((1 / 2 : ℝ) : EReal))

/-- The sum of `f` up to and including bin `b`. -/
def lower (f : Fin 256 → EReal) (b : Fin 256) : EReal := ∑ k : Fin 256, if k ≤ b then f k else 0

/-- The sum of `f` from bin `b` on. -/
def upper (f : Fin 256 → EReal) (b : Fin 256) : EReal := ∑ k : Fin 256, if b ≤ k then f k else 0

/-- The sum of `f` from bin `b` on, as the total without what lies below `b`. -/
def rest (f : Fin 256 → EReal) (b : Fin 256) : EReal := lower f 255 - lower f b + f b

/-- The bin after `b`, the first one after the last. -/
def next (b : Fin 256) : Fin 256 := b + 1

/-- The mean of `c` over a class of weight `w` and sum `s`; an empty class divides by one. -/
def mean (s w : EReal) : EReal := Ideal.div s (max w 1)

/-- The score of a cut after bin `b` from the lower sums and from the upper sums `U`. -/
def scoreOf (U : (Fin 256 → EReal) → Fin 256 → EReal) (h c : Fin 256 → EReal) (b : Fin 256) : EReal :=
  lower h b * U h (next b)
    * ((mean (lower (fun k => h k * c k) b) (lower h b) - mean (U (fun k => h k * c k) (next b)) (U h (next b)))
      * (mean (lower (fun k => h k * c k) b) (lower h b) - mean (U (fun k => h k * c k) (next b)) (U h (next b))))

/-- The score with the last bin masked. -/
def masked (h c : Fin 256 → EReal) (b : Fin 256) : EReal := if b.val < 255 then scoreOf rest h c b else ((-1 : ℝ) : EReal)

/-- The least center among the bins of greatest masked score. -/
def leastCenter (h c : Fin 256 → EReal) : EReal :=
  Finset.univ.fold min ⊤ fun b => if masked h c b = Finset.univ.fold max ⊥ (masked h c) then c b else ⊤

/-! ### Sums -/

theorem coe_sum (s : Finset (Fin 256)) (f : Fin 256 → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The lower sum of real numbers is the real lower sum. -/
theorem lower_coe (f : Fin 256 → ℝ) (b : Fin 256) :
    lower (fun k => (f k : EReal)) b = ((∑ k : Fin 256, if k ≤ b then f k else 0 : ℝ) : EReal) := by
  unfold lower
  rw [← coe_sum]
  exact Finset.sum_congr rfl fun k _ => by split <;> simp

/-- The upper sum of real numbers is the real upper sum. -/
theorem upper_coe (f : Fin 256 → ℝ) (b : Fin 256) :
    upper (fun k => (f k : EReal)) b = ((∑ k : Fin 256, if b ≤ k then f k else 0 : ℝ) : EReal) := by
  unfold upper
  rw [← coe_sum]
  exact Finset.sum_congr rfl fun k _ => by split <;> simp

/-- For real summands the total without what lies below is the upper sum. -/
theorem rest_coe (f : Fin 256 → ℝ) (b : Fin 256) : rest (fun k => (f k : EReal)) b = upper (fun k => (f k : EReal)) b := by
  unfold rest
  rw [lower_coe, lower_coe, upper_coe, ← EReal.coe_sub, ← EReal.coe_add]
  congr 1
  have h1 : (∑ k : Fin 256, if k ≤ (255 : Fin 256) then f k else 0) = ∑ k : Fin 256, f k :=
    Finset.sum_congr rfl fun k _ => if_pos (by have := k.isLt; exact Fin.le_def.mpr (by show k.val ≤ 255; omega))
  have h2 : f b = ∑ k : Fin 256, if k = b then f k else 0 := by simp
  rw [h1, h2, ← Finset.sum_sub_distrib, ← Finset.sum_add_distrib]
  refine Finset.sum_congr rfl fun k _ => ?_
  rcases lt_trichotomy k b with h | h | h
  · rw [if_pos h.le, if_neg h.ne, if_neg (not_le.mpr h)]; ring
  · subst h; simp
  · rw [if_neg (not_le.mpr h), if_neg h.ne', if_pos h.le]; ring

/-! ### Scores -/

theorem sq_nonneg (x : EReal) : 0 ≤ x * x := by
  induction x using EReal.rec with
  | bot => simp
  | coe r => rw [← EReal.coe_mul]; exact EReal.coe_nonneg.mpr (mul_self_nonneg r)
  | top => simp

/-- A score from upper sums of counts is not negative. -/
theorem score_nonneg (h c : Fin 256 → EReal) (hh : ∀ k, 0 ≤ h k) (b : Fin 256) : 0 ≤ scoreOf upper h c b := by
  unfold scoreOf
  refine mul_nonneg (mul_nonneg ?_ ?_) (sq_nonneg _)
  · exact Finset.sum_nonneg fun k _ => by split; exacts [hh k, le_rfl]
  · exact Finset.sum_nonneg fun k _ => by split; exacts [hh k, le_rfl]

/-- With real counts and centers the two ways to the upper sums give one score. -/
theorem score_rest (n γ : Fin 256 → ℝ) (b : Fin 256) :
    scoreOf rest (fun k => (n k : EReal)) (fun k => (γ k : EReal)) b = scoreOf upper (fun k => (n k : EReal)) (fun k => (γ k : EReal)) b := by
  unfold scoreOf
  have e : (fun k => (n k : EReal) * (γ k : EReal)) = fun k => ((n k * γ k : ℝ) : EReal) := funext fun k => (EReal.coe_mul _ _).symm
  simp only [e, rest_coe]

/-! ### The bin that is picked -/

theorem fold_max_ge (f : Fin 256 → EReal) (b : Fin 256) : f b ≤ Finset.univ.fold max ⊥ f :=
  (Finset.le_fold_max _).mpr (.inr ⟨b, Finset.mem_univ _, le_rfl⟩)

/-- The maximum over the bins is reached. -/
theorem fold_max_mem (f : Fin 256 → EReal) : ∃ b, f b = Finset.univ.fold max ⊥ f := by
  obtain ⟨b, -, hb⟩ := Finset.exists_max_image (Finset.univ : Finset (Fin 256)) f ⟨0, Finset.mem_univ _⟩
  refine ⟨b, le_antisymm (fold_max_ge f b) ?_⟩
  exact Finset.fold_max_le _ |>.mpr ⟨bot_le, fun k _ => hb k (Finset.mem_univ _)⟩

/-- If every center is the same, so is the least one. -/
theorem leastCenter_const (h : Fin 256 → EReal) (C : EReal) : leastCenter h (fun _ => C) = C := by
  unfold leastCenter
  obtain ⟨b, hb⟩ := fold_max_mem (masked h fun _ => C)
  refine le_antisymm ?_ ?_
  · exact (Finset.fold_min_le _).mpr (.inr ⟨b, Finset.mem_univ _, by rw [if_pos hb]⟩)
  · exact (Finset.le_fold_min _).mpr ⟨le_top, fun k _ => by split; exacts [le_rfl, le_top]⟩

/-- With real counts, real centers that do not decrease, and `i` the first of the first 255 bins of greatest score, the least center is
    that of `i`. -/
theorem leastCenter_coe (n γ : Fin 256 → ℝ) (hn : ∀ k, 0 ≤ n k) (hγ : ∀ k l, k ≤ l → γ k ≤ γ l) (i : Fin 256) (hi : i.val < 255)
    (hmax : ∀ j : Fin 256, j.val < 255 → scoreOf upper (fun k => (n k : EReal)) (fun k => (γ k : EReal)) j
      ≤ scoreOf upper (fun k => (n k : EReal)) (fun k => (γ k : EReal)) i)
    (hfirst : ∀ j : Fin 256, j < i → scoreOf upper (fun k => (n k : EReal)) (fun k => (γ k : EReal)) j
      < scoreOf upper (fun k => (n k : EReal)) (fun k => (γ k : EReal)) i) :
    leastCenter (fun k => (n k : EReal)) (fun k => (γ k : EReal)) = (γ i : EReal) := by
  set h : Fin 256 → EReal := fun k => (n k : EReal)
  set c : Fin 256 → EReal := fun k => (γ k : EReal)
  have hneg : ((-1 : ℝ) : EReal) < scoreOf upper h c i :=
    lt_of_lt_of_le (EReal.coe_lt_coe_iff.mpr (by norm_num : (-1 : ℝ) < 0)) (score_nonneg h c (fun k => EReal.coe_nonneg.mpr (hn k)) i)
  have hm : ∀ j : Fin 256, j.val < 255 → masked h c j = scoreOf upper h c j := fun j hj => by
    unfold masked; rw [if_pos hj]; exact score_rest n γ j
  have hle : ∀ j, masked h c j ≤ scoreOf upper h c i := fun j => by
    by_cases hj : j.val < 255
    · rw [hm j hj]; exact hmax j hj
    · unfold masked; rw [if_neg hj]; exact hneg.le
  have hM : Finset.univ.fold max ⊥ (masked h c) = scoreOf upper h c i :=
    le_antisymm ((Finset.fold_max_le _).mpr ⟨bot_le, fun j _ => hle j⟩) (hm i hi ▸ fold_max_ge _ i)
  unfold leastCenter
  rw [hM]
  refine le_antisymm ?_ ?_
  · exact (Finset.fold_min_le _).mpr (.inr ⟨i, Finset.mem_univ _, by rw [if_pos (hm i hi)]⟩)
  · refine (Finset.le_fold_min _).mpr ⟨le_top, fun k _ => ?_⟩
    split
    · rename_i hk
      by_cases hk' : k.val < 255
      · rw [hm k hk'] at hk
        refine EReal.coe_le_coe_iff.mpr (hγ _ _ ?_)
        by_contra hlt
        exact absurd hk (hfirst k (not_le.mp hlt)).ne
      · unfold masked at hk; rw [if_neg hk'] at hk
        exact absurd hk hneg.ne
    · exact le_top

/-! ### The centers -/

theorem width_coe (a b : ℝ) : width (a : EReal) (b : EReal) = (((b - a) * (256 : ℝ)⁻¹ : ℝ) : EReal) := by
  unfold width Ideal.div
  rw [if_neg (by rw [← EReal.coe_zero]; exact fun e => by have := EReal.coe_eq_coe_iff.mp e; norm_num at this), ← EReal.coe_sub, ← EReal.coe_inv, ← EReal.coe_mul]

/-- The center of a bin in a range with real ends. -/
theorem center_coe (a b : ℝ) (k : Fin 256) :
    center (a : EReal) (b : EReal) k = ((a + (b - a) * (256 : ℝ)⁻¹ * ((k.val : ℝ) + 1 / 2) : ℝ) : EReal) := by
  unfold center
  rw [width_coe, ← EReal.coe_add, ← EReal.coe_mul, ← EReal.coe_add]

/-- If the range is not real, every center is the same. -/
theorem center_const (mn mx : EReal) (hr : ¬ ∃ a b : ℝ, mn = a ∧ mx = b) : ∃ C, center mn mx = fun _ => C := by
  have h256 : ((256 : ℝ) : EReal) ≠ 0 := by rw [← EReal.coe_zero]; exact fun e => by have := EReal.coe_eq_coe_iff.mp e; norm_num at this
  have hinv : ((256 : ℝ) : EReal)⁻¹ = (((256 : ℝ)⁻¹ : ℝ) : EReal) := (EReal.coe_inv _).symm
  have hpos : (0 : ℝ) < (256 : ℝ)⁻¹ := by norm_num
  have hk : ∀ k : Fin 256, (((k.val : ℝ) : EReal) + ((1 / 2 : ℝ) : EReal)) = (((k.val : ℝ) + 1 / 2 : ℝ) : EReal) := fun k => (EReal.coe_add _ _).symm
  have hkp : ∀ k : Fin 256, (0 : ℝ) < (k.val : ℝ) + 1 / 2 := fun k => by positivity
  induction mn using EReal.rec with
  | bot => exact ⟨⊥, funext fun k => by unfold center; rw [EReal.bot_add]⟩
  | top =>
    refine ⟨⊥, funext fun k => ?_⟩
    unfold center width Ideal.div
    rw [if_neg h256, sub_eq_add_neg, EReal.neg_top, EReal.add_bot, hinv, EReal.bot_mul_coe_of_pos hpos, hk, EReal.bot_mul_coe_of_pos (hkp k), EReal.add_bot]
  | coe a =>
    induction mx using EReal.rec with
    | bot =>
      refine ⟨⊥, funext fun k => ?_⟩
      unfold center width Ideal.div
      rw [if_neg h256, sub_eq_add_neg, EReal.bot_add, hinv, EReal.bot_mul_coe_of_pos hpos, hk, EReal.bot_mul_coe_of_pos (hkp k), EReal.add_bot]
    | coe b => exact absurd ⟨a, b, rfl, rfl⟩ hr
    | top =>
      refine ⟨⊤, funext fun k => ?_⟩
      unfold center width Ideal.div
      rw [if_neg h256, EReal.top_sub_coe, hinv, EReal.top_mul_coe_of_pos hpos, hk, EReal.top_mul_coe_of_pos (hkp k), EReal.coe_add_top]

/-- THE THRESHOLD: for counts, and a range from `mn` up to `mx`, the least center among the bins of greatest masked score is the center
    of the first of the first 255 bins of greatest score. -/
theorem leastCenter_eq (mn mx : EReal) (hle : mn ≤ mx) (n : Fin 256 → ℕ) (i : Fin 256) (hi : i.val < 255)
    (hmax : ∀ j : Fin 256, j.val < 255 → scoreOf upper (fun k => ((n k : ℝ) : EReal)) (center mn mx) j
      ≤ scoreOf upper (fun k => ((n k : ℝ) : EReal)) (center mn mx) i)
    (hfirst : ∀ j : Fin 256, j < i → scoreOf upper (fun k => ((n k : ℝ) : EReal)) (center mn mx) j
      < scoreOf upper (fun k => ((n k : ℝ) : EReal)) (center mn mx) i) :
    leastCenter (fun k => ((n k : ℝ) : EReal)) (center mn mx) = center mn mx i := by
  by_cases hr : ∃ a b : ℝ, mn = a ∧ mx = b
  · obtain ⟨a, b, rfl, rfl⟩ := hr
    have hab : a ≤ b := EReal.coe_le_coe_iff.mp hle
    have e : center (a : EReal) (b : EReal) = fun k => ((a + (b - a) * (256 : ℝ)⁻¹ * ((k.val : ℝ) + 1 / 2) : ℝ) : EReal) := funext (center_coe a b)
    rw [e] at hmax hfirst ⊢
    refine leastCenter_coe _ _ (fun k => Nat.cast_nonneg _) (fun k l hkl => ?_) i hi hmax hfirst
    have hkl' : (k.val : ℝ) ≤ (l.val : ℝ) := Nat.cast_le.mpr hkl
    have hw : 0 ≤ (b - a) * (256 : ℝ)⁻¹ := mul_nonneg (by linarith) (by norm_num)
    nlinarith [mul_le_mul_of_nonneg_left hkl' hw]
  · obtain ⟨C, hC⟩ := center_const mn mx hr
    rw [hC]
    exact leastCenter_const _ C

end Cert.Otsu

end
-- ==== Proof.Bins.lean ====
/- The bin an element falls in. One way takes the element's place in the range, rounds it down, clips it to 0 … 255 and converts it to
   an integer; the other converts first, toward zero, and clips the integer. Both give one number below 256. -/
module

public import Idealize.ShloMosaic.PureOps.Ideal.Laws

@[expose] public section

noncomputable section

open Idealize.ShloMosaic

namespace Cert.Otsu

/-- The bin of an element at place `y` of the range, in bins. -/
def binOf (y : EReal) : ℕ := (max 0 (min 255 (Ideal.toIntClamped (-(2 ^ 31 : ℕ)) ((2 ^ 31 : ℕ) - 1) y))).toNat

/-- A bin number is below 256. -/
theorem binOf_lt (y : EReal) : binOf y < 256 := by unfold binOf; omega

/-- Rounding into the signed 32-bit range stays in that range. -/
theorem clamped_mem (y : EReal) : -(2 ^ 31 : ℤ) ≤ Ideal.toIntClamped (-(2 ^ 31 : ℕ)) ((2 ^ 31 : ℕ) - 1) y
    ∧ Ideal.toIntClamped (-(2 ^ 31 : ℕ)) ((2 ^ 31 : ℕ) - 1) y < 2 ^ 31 := by
  induction y using EReal.rec with
  | bot => show _ ≤ (-((2 ^ 31 : ℕ) : ℤ)) ∧ (-((2 ^ 31 : ℕ) : ℤ)) < _; omega
  | top => show _ ≤ (((2 ^ 31 : ℕ) : ℤ) - 1) ∧ (((2 ^ 31 : ℕ) : ℤ) - 1) < _; omega
  | coe r =>
    show _ ≤ max (-((2 ^ 31 : ℕ) : ℤ)) (min (((2 ^ 31 : ℕ) : ℤ) - 1) _) ∧ max (-((2 ^ 31 : ℕ) : ℤ)) (min (((2 ^ 31 : ℕ) : ℤ) - 1) _) < _
    omega

/-- Converting first and clipping the integer gives the bin. -/
theorem bin_clip_int (y : EReal) : IntOp.minsi 255#32 (IntOp.maxsi 0#32 (Ideal.fptosi 32 y)) = BitVec.ofNat 32 (binOf y) := by
  obtain ⟨h1, h2⟩ := clamped_mem y
  unfold binOf Ideal.fptosi
  show IntOp.minsi 255#32 (IntOp.maxsi 0#32 (BitVec.ofInt 32 (Ideal.toIntClamped (-(2 ^ 31 : ℕ)) ((2 ^ 31 : ℕ) - 1) y))) = _
  generalize Ideal.toIntClamped (-(2 ^ 31 : ℕ)) ((2 ^ 31 : ℕ) - 1) y = z at h1 h2 ⊢
  have ez : (BitVec.ofInt 32 z).toInt = z := BitVec.toInt_ofInt_eq_self (by decide) (by simpa using h1) (by simpa using h2)
  unfold IntOp.maxsi IntOp.minsi
  simp only [BitVec.slt_eq_decide, ez, decide_eq_true_eq]
  have e0 : (0#32 : BitVec 32).toInt = 0 := by decide
  have e255 : (255#32 : BitVec 32).toInt = 255 := by decide
  rw [e0]
  by_cases hz : z < 0
  · rw [if_pos hz, e255, e0, if_neg (by omega), show (max 0 (min 255 z)).toNat = 0 by omega]
  · rw [if_neg hz, ez, e255]
    by_cases hz' : 255 < z
    · rw [if_pos hz', show (max 0 (min 255 z)).toNat = 255 by omega]
    · obtain ⟨n, rfl⟩ : ∃ n : ℕ, z = (n : ℤ) := ⟨z.toNat, by omega⟩
      rw [if_neg hz', show (max 0 (min 255 (n : ℤ))).toNat = n by omega]
      exact BitVec.ofInt_natCast _ _

/-- An integer from 0 to 255, as an extended real, turns into the word of that integer. -/
theorem fptosi_int (z : ℤ) (h : 0 ≤ z ∧ z ≤ 255) : Ideal.fptosi 32 (((z : ℝ) : EReal)) = BitVec.ofNat 32 z.toNat := by
  unfold Ideal.fptosi
  show BitVec.ofInt 32 (max (-((2 ^ 31 : ℕ) : ℤ)) (min (((2 ^ 31 : ℕ) : ℤ) - 1) (if 0 ≤ (z : ℝ) then ⌊(z : ℝ)⌋ else ⌈(z : ℝ)⌉))) = _
  rw [if_pos (by exact_mod_cast h.1), Int.floor_intCast, show max (-((2 ^ 31 : ℕ) : ℤ)) (min (((2 ^ 31 : ℕ) : ℤ) - 1) z) = ((z.toNat : ℕ) : ℤ) by omega]
  exact BitVec.ofInt_natCast _ _

/-- Rounding down and clipping first gives the bin. -/
theorem bin_clip_float (y : EReal) :
    Ideal.fptosi 32 (min ((255 : ℝ) : EReal) (max 0 (Ideal.liftRound Int.floor y))) = BitVec.ofNat 32 (binOf y) := by
  induction y using EReal.rec with
  | bot =>
    have e : min ((255 : ℝ) : EReal) (max 0 (Ideal.liftRound Int.floor ⊥)) = (((0 : ℤ) : ℝ) : EReal) := by
      show min ((255 : ℝ) : EReal) (max 0 ⊥) = _
      rw [max_eq_left bot_le, min_eq_right (EReal.coe_nonneg.mpr (by norm_num))]; simp
    rw [e, fptosi_int 0 (by omega)]
    rfl
  | top =>
    have e : min ((255 : ℝ) : EReal) (max 0 (Ideal.liftRound Int.floor ⊤)) = (((255 : ℤ) : ℝ) : EReal) := by
      show min ((255 : ℝ) : EReal) (max 0 ⊤) = _
      rw [max_eq_right le_top, min_eq_left le_top]; norm_num
    rw [e, fptosi_int 255 (by omega)]
    rfl
  | coe r =>
    have e : min ((255 : ℝ) : EReal) (max 0 (Ideal.liftRound Int.floor (r : EReal))) = (((min 255 (max 0 ⌊r⌋) : ℤ) : ℝ) : EReal) := by
      show min ((255 : ℝ) : EReal) (max 0 (((⌊r⌋ : ℤ) : ℝ) : EReal)) = _
      push_cast
      rw [EReal.coe_strictMono.monotone.map_min, EReal.coe_strictMono.monotone.map_max]; rfl
    rw [e, fptosi_int _ (by omega)]
    congr 1
    show _ = (max 0 (min 255 (max (-((2 ^ 31 : ℕ) : ℤ)) (min (((2 ^ 31 : ℕ) : ℤ) - 1) (if 0 ≤ r then ⌊r⌋ else ⌈r⌉))))).toNat
    by_cases hr : 0 ≤ r
    · rw [if_pos hr]
      have := Int.floor_nonneg.mpr hr
      omega
    · rw [if_neg hr]
      have h1 : ⌈r⌉ ≤ 0 := Int.ceil_le.mpr (by simpa using (not_le.mp hr).le)
      have h2 : ⌊r⌋ < 0 := Int.floor_lt.mpr (by simpa using not_le.mp hr)
      omega

end Cert.Otsu

end
-- ==== Proof.Gray.lean ====
/- The grayscale image at its pixels: the three channels weighted and added. A pixel is named by its row among all rows of the batch
   and its column. -/
module

public import Idealize.ShloMosaic.PureOps.Ideal.Laws
public import Idealize.ShloMosaic.Lib.Pointwise
public import proofs.«01_k».proof.Proof.Otsu
public import proofs.«01_k».proof.Proof.Bins

@[expose] public section

noncomputable section

open Idealize.ShloMosaic

namespace Cert.Otsu

/-- A batch of 16 images of 1024 by 1024 pixels with three channels. -/
abbrev Images : Type := (⟨4, ![16, 1024, 1024, 3]⟩ : Shape).Idx → EReal

/-- The weight of the red channel. The three weights are the float32 roundings of 0.2989, 0.5870 and 0.1140. -/
def wRed : EReal := ((2507355 / 8388608 : ℝ) : EReal)
/-- The weight of the green channel. -/
def wGreen : EReal := ((4924113 / 8388608 : ℝ) : EReal)
/-- The weight of the blue channel. -/
def wBlue : EReal := ((15300821 / 134217728 : ℝ) : EReal)

/-- The gray value of a pixel of one image. -/
def gray (x : Images) (b : Fin 16) (h w : Fin 1024) : EReal :=
  x (ix4 b h w 0) * wRed + x (ix4 b h w 1) * wGreen + x (ix4 b h w 2) * wBlue

/-- The gray value at row `r` of all the rows of the batch. -/
def pixel (x : Images) (r : Fin 16384) (c : Fin 1024) : EReal :=
  gray x ⟨r.val / 1024, by omega⟩ ⟨r.val % 1024, by omega⟩ c

/-- `mn` is the least gray value. -/
def IsLeast (x : Images) (mn : EReal) : Prop := ∀ z, z ≤ mn ↔ ∀ r c, z ≤ pixel x r c

/-- `mx` is the greatest gray value. -/
def IsGreatest (x : Images) (mx : EReal) : Prop := ∀ z, mx ≤ z ↔ ∀ r c, pixel x r c ≤ z

/-- There is one least gray value. -/
theorem IsLeast.eq {x : Images} {a b : EReal} (ha : IsLeast x a) (hb : IsLeast x b) : a = b :=
  le_antisymm ((hb a).mpr ((ha a).mp le_rfl)) ((ha b).mpr ((hb b).mp le_rfl))

/-- There is one greatest gray value. -/
theorem IsGreatest.eq {x : Images} {a b : EReal} (ha : IsGreatest x a) (hb : IsGreatest x b) : a = b :=
  le_antisymm ((ha b).mpr ((hb b).mp le_rfl)) ((hb a).mpr ((ha a).mp le_rfl))

/-- The least gray value is at most the greatest. -/
theorem IsLeast.le {x : Images} {a b : EReal} (ha : IsLeast x a) (hb : IsGreatest x b) : a ≤ b :=
  ((ha a).mp le_rfl 0 0).trans ((hb b).mp le_rfl 0 0)

/-- The bin of a gray value in the range from `mn` to `mx`. -/
def bin (mn mx g : EReal) : ℕ := binOf (Ideal.div (g - mn) (width mn mx))

/-- There are 256 bins. -/
theorem bin_lt (mn mx g : EReal) : bin mn mx g < 256 := binOf_lt _

/-- The result at a pixel of gray value `g` under the threshold `t`: one when `g > t`, zero otherwise. -/
def above (t g : EReal) : EReal := if t < g then 1 else 0

/-- How many pixels fall in bin `k`. -/
def count (x : Images) (mn mx : EReal) (k : Fin 256) : ℕ :=
  ((Finset.univ : Finset (Fin 16384 × Fin 1024)).filter fun p => bin mn mx (pixel x p.1 p.2) = k.val).card

/-- The threshold of a batch with gray values from `mn` to `mx`. -/
def threshold (x : Images) (mn mx : EReal) : EReal := leastCenter (fun k => ((count x mn mx k : ℝ) : EReal)) (center mn mx)

/-! ### Constants -/

theorem ofBits_256 : Ideal.ofBits .f32 0x43800000#32 = ((256 : ℝ) : EReal) := by
  simp [Ideal.ofBits, Ideal.ieee, -EReal.coe_mul]; norm_num

/-- The word of 255. -/
theorem ofBits_255 : Ideal.ofBits .f32 0x437F0000#32 = ((255 : ℝ) : EReal) := by
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- The word of minus one. -/
theorem ofBits_neg_one : Ideal.ofBits .f32 0xBF800000#32 = ((-1 : ℝ) : EReal) := by
  simp [Ideal.ofBits, Ideal.ieee, -EReal.coe_mul, -EReal.coe_neg]; norm_num

/-- The word of plus infinity. -/
theorem ofBits_top : Ideal.ofBits .f32 0x7F800000#32 = ⊤ := by simp [Ideal.ofBits, Ideal.ieee]

/-- The word of minus infinity. -/
theorem ofBits_bot : Ideal.ofBits .f32 0xFF800000#32 = ⊥ := by simp [Ideal.ofBits, Ideal.ieee]

/-- The word of the red weight. -/
theorem ofBits_red : Ideal.ofBits .f32 0x3E99096C#32 = wRed := by
  unfold wRed; simp [Ideal.ofBits, Ideal.ieee, -EReal.coe_mul]; norm_num

/-- The word of the green weight. -/
theorem ofBits_green : Ideal.ofBits .f32 0x3F1645A2#32 = wGreen := by
  unfold wGreen; simp [Ideal.ofBits, Ideal.ieee, -EReal.coe_mul]; norm_num

/-- The word of the blue weight. -/
theorem ofBits_blue : Ideal.ofBits .f32 0x3DE978D5#32 = wBlue := by
  unfold wBlue; simp [Ideal.ofBits, Ideal.ieee, -EReal.coe_mul]; norm_num

end Cert.Otsu

end
-- ==== Proof.KPay0.lean ====
/- The first call's arithmetic at `Ideal`: the weighted sum of the three channels, and the minimum and maximum of it. -/
module

public import proofs.«01_k».proof.Proof.Body0
public import proofs.«01_k».proof.Proof.Gray

@[expose] public section

set_option maxRecDepth 8192

noncomputable section

namespace Cert.KernelIdeal.Hand

open Cert.KernelIdeal Cert.KernelIdeal.Gen
open Idealize.ShloMosaic Idealize.ShloMosaic.TcCoe
open Cert.Otsu

/-- The named red weight. -/
theorem named_red : (Named.named κ "w_red" 0x3E990000#32 : Ideal .f32) = wRed := by simp [Named.named, κ, wRed]
/-- The named green weight. -/
theorem named_green : (Named.named κ "w_green" 0x3F160000#32 : Ideal .f32) = wGreen := by simp [Named.named, κ, wGreen]
/-- The named blue weight. -/
theorem named_blue : (Named.named κ "w_blue" 0x3DE90000#32 : Ideal .f32) = wBlue := by simp [Named.named, κ, wBlue]

/-- The weighted sum at a row and column of a block. -/
theorem gray_at (x0 x1 x2 : S512x1024.Idx → EReal) (r : Fin 512) (q : Fin 1024) :
    k0_pay4 (F := Ideal) x0 x1 x2 (ix2 r q) = x0 (ix2 r q) * wRed + x1 (ix2 r q) * wGreen + x2 (ix2 r q) * wBlue := by
  pointwise [k0_pay4]
  rw [named_red, named_green, named_blue]

/-- The running minimum starts at the top, -/
theorem pay5_at (q : Fin 1024) : k0_pay5 (F := Ideal) (ix2 0 q) = ⊤ := by
  pointwise [k0_pay5]
  exact ofBits_top

/-- the running maximum at the bottom. -/
theorem pay6_at (q : Fin 1024) : k0_pay6 (F := Ideal) (ix2 0 q) = ⊥ := by
  pointwise [k0_pay6]
  exact ofBits_bot

/-- What is at most a column's minimum after a block. -/
theorem le_pay7 (x0 x1 x2 : S512x1024.Idx → EReal) (y : S1x1024.Idx → EReal) (q : Fin 1024) (z : EReal) :
    z ≤ (k0_pay7 (F := Ideal) x0 x1 x2 y (ix2 0 q) : EReal)
      ↔ z ≤ y (ix2 0 q) ∧ ∀ r : Fin 512, z ≤ x0 (ix2 r q) * wRed + x1 (ix2 r q) * wGreen + x2 (ix2 r q) * wBlue := by
  pointwise [k0_pay7]
  rw [le_min_iff, Finset.le_fold_min, ofBits_top]
  simp only [le_top, true_and, Finset.mem_univ, true_implies, gray_at]

/-- What is at least a column's maximum after a block. -/
theorem pay8_le (x0 x1 x2 : S512x1024.Idx → EReal) (y : S1x1024.Idx → EReal) (q : Fin 1024) (z : EReal) :
    (k0_pay1 (F := Ideal) (k0_pay8 (F := Ideal) x0 x1 x2 y) (ix2 0 q) : EReal) ≤ z
      ↔ y (ix2 0 q) ≤ z ∧ ∀ r : Fin 512, x0 (ix2 r q) * wRed + x1 (ix2 r q) * wGreen + x2 (ix2 r q) * wBlue ≤ z := by
  pointwise [k0_pay1, k0_pay8]
  rw [max_le_iff, Finset.fold_max_le, ofBits_bot]
  simp only [bot_le, true_and, Finset.mem_univ, true_implies, gray_at]

/-- What is at most the first lane of the range row. -/
theorem le_range (mn mx : S1x1024.Idx → EReal) (z : EReal) :
    z ≤ (rangeRow (F := Ideal) mn mx (ix3 0 0 0) : EReal) ↔ ∀ q : Fin 1024, z ≤ mn (ix2 0 q) := by
  have e : rangeRow (F := Ideal) mn mx (ix3 0 0 0) = Finset.univ.fold min ⊤ fun q : Fin 1024 => mn (ix2 0 q) := by
    unfold rangeRow halves
    rw [if_pos (by decide)]
    show k0_pay2 (F := Ideal) mn (ix3 0 0 0) = _
    pointwise [k0_pay2]
    rw [ofBits_top]
  rw [e, Finset.le_fold_min]
  simp only [le_top, true_and, Finset.mem_univ, true_implies]

/-- What is at least lane 128 of the range row. -/
theorem range_le (mn mx : S1x1024.Idx → EReal) (z : EReal) :
    (rangeRow (F := Ideal) mn mx (ix3 0 0 128) : EReal) ≤ z ↔ ∀ q : Fin 1024, mx (ix2 0 q) ≤ z := by
  have e : rangeRow (F := Ideal) mn mx (ix3 0 0 128) = Finset.univ.fold max ⊥ fun q : Fin 1024 => mx (ix2 0 q) := by
    unfold rangeRow halves
    rw [if_neg (by decide)]
    show k0_pay3 (F := Ideal) mx (ix3 0 0 0) = _
    pointwise [k0_pay3]
    rw [ofBits_bot]
  rw [e, Finset.fold_max_le]
  simp only [bot_le, true_and, Finset.mem_univ, true_implies]

end Cert.KernelIdeal.Hand
-- ==== Proof.KGray.lean ====
/- The first call at `Ideal`: it leaves the gray image, and a row with the least and the greatest gray value. -/
module

public import proofs.«01_k».proof.Proof.Run
public import proofs.«01_k».proof.Proof.KPay0
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Pipeline
open Cert.Otsu

/-- The minimum of one value, -/
theorem min_one (x : EReal) : Finset.univ.fold min (Ideal.ofBits .f32 0x7F800000#32) (fun _ : Fin 1 => x) = x := by
  rw [Finset.univ_unique, Finset.fold_singleton, ofBits_top, min_eq_left le_top]

/-- and its maximum. -/
theorem max_one (x : EReal) : Finset.univ.fold max (Ideal.ofBits .f32 0xFF800000#32) (fun _ : Fin 1 => x) = x := by
  rw [Finset.univ_unique, Finset.fold_singleton, ofBits_bot, max_eq_left bot_le]

section Channels

variable (V : Valuation τ sig (Elt Ideal)) (r : Fin 16384) (q : Fin 1024)

/-- The red channel, in rows of 1024. -/
theorem chan_red : (after hostOps0 V ↑main_v2 (ix2 r q) : EReal) = V ↑main_arg0 (ix4 ⟨r.val / 1024, by omega⟩ ⟨r.val % 1024, by omega⟩ q 0) := by
  unfold hostOps0
  after_results_simp
  pointwise

/-- The green channel. -/
theorem chan_green : (after hostOps0 V ↑main_v5 (ix2 r q) : EReal) = V ↑main_arg0 (ix4 ⟨r.val / 1024, by omega⟩ ⟨r.val % 1024, by omega⟩ q 1) := by
  unfold hostOps0
  after_results_simp
  pointwise

/-- The blue channel. -/
theorem chan_blue : (after hostOps0 V ↑main_v8 (ix2 r q) : EReal) = V ↑main_arg0 (ix4 ⟨r.val / 1024, by omega⟩ ⟨r.val % 1024, by omega⟩ q 2) := by
  unfold hostOps0
  after_results_simp
  pointwise

/-- The range row's first lane is the array of one minimum, -/
theorem range_v13 : (after hostOps1 V ↑main_v13 (ix2 0 0) : EReal) = V ↑main_v9_1 (ix3 0 0 0) := by
  unfold hostOps1
  after_results_simp
  pointwise
  exact min_one _

/-- and its lane 128 the array of one maximum. -/
theorem range_v17 : (after hostOps1 V ↑main_v17 (ix2 0 0) : EReal) = V ↑main_v9_1 (ix3 0 0 128) := by
  unfold hostOps1
  after_results_simp
  pointwise
  exact max_one _

end Channels

/-- The weighted sum of three channels. -/
def weigh (x0 x1 x2 : S16384x1024.Idx → EReal) (j : S16384x1024.Idx) : EReal := x0 j * wRed + x1 j * wGreen + x2 j * wBlue

section Blocks

variable (W : Dev nD → Valuation τ sig (Elt Ideal)) (c : Dev nD)

/-- The blocks of the first call: 512 rows each, in order. -/
theorem idx0 : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- Row `r` of block `t` is a row of the image. -/
theorem rows0 (t : Fin cfg0.N) (r : Fin 512) : t.val * 512 + r.val < 16384 := by
  have := Nat.lt_of_lt_of_eq t.isLt N_0; omega

/-- The block of the red channel. -/
theorem blk0_0 (t : Fin cfg0.N) (r : Fin 512) (q : Fin 1024) :
    blk0 W c 0 t (ix2 r q) = W c ↑main_v2 (ix2 ⟨t.val * 512 + r.val, rows0 t r⟩ q) := by
  blk_ext! [blk0, idx0 t]

/-- The block of the green channel. -/
theorem blk0_1 (t : Fin cfg0.N) (r : Fin 512) (q : Fin 1024) :
    blk0 W c 1 t (ix2 r q) = W c ↑main_v5 (ix2 ⟨t.val * 512 + r.val, rows0 t r⟩ q) := by
  blk_ext! [blk0, idx0 t]

/-- The block of the blue channel. -/
theorem blk0_2 (t : Fin cfg0.N) (r : Fin 512) (q : Fin 1024) :
    blk0 W c 2 t (ix2 r q) = W c ↑main_v8 (ix2 ⟨t.val * 512 + r.val, rows0 t r⟩ q) := by
  blk_ext! [blk0, idx0 t]

/-- Where the gray block's element goes. -/
theorem emb0_3 (t : Fin cfg0.N) (r : Fin 512) (q : Fin 1024) :
    (win0_3.blk t).view.emb (ix2 r q) = ix2 ⟨t.val * 512 + r.val, rows0 t r⟩ q := by
  blk_ext! [idx0 t]

/-- The gray array after the call. -/
theorem arr0_3 : (dat0 W c).arrAt 3 cfg0.N = weigh (W c ↑main_v2) (W c ↑main_v5) (W c ↑main_v8) := by
  refine (dat0 W c).arrAt_eq_of_covers 3 _ (by decide +kernel) (fun t _ y => ?_)
  blk_simp
  rw [dat0_after_3]
  obtain ⟨r, q, rfl⟩ : ∃ (r : Fin 512) (q : Fin 1024), y = ix2 r q := ⟨y 0, y 1, funext fun a => by fin_cases a <;> rfl⟩
  refine (gray_at _ _ _ r q).trans ?_
  rw [blk0_0, blk0_1, blk0_2, emb0_3]
  rfl

/-- The first call's last point. -/
def end0 : Fin cfg0.N := ⟨31, Nat.lt_of_lt_of_eq (by decide) N_0.symm⟩

/-- The range row after the call. -/
theorem arr0_4 : (dat0 W c).arrAt 4 cfg0.N = rangeRow (minAt W c 32) (maxAt W c 32) := by
  refine (dat0 W c).arrAt_eq_of_after_last 4 end0 (by decide +kernel) _ (fun j => ?_)
  blk_simp
  exact congrFun (dat0_after_4 W c end0) _

/-- A row of the image among the rows up to the end of block `n`: among those before, or a row of the block. -/
theorem rows_split (n : ℕ) (hN : n < cfg0.N) (P : Fin 16384 → Prop) :
    (∀ r : Fin 16384, r.val < (n + 1) * 512 → P r)
      ↔ (∀ r : Fin 16384, r.val < n * 512 → P r) ∧ ∀ r : Fin 512, P ⟨n * 512 + r.val, rows0 ⟨n, hN⟩ r⟩ := by
  constructor
  · intro h
    exact ⟨fun r hr => h r (by omega), fun r => h _ (by show n * 512 + r.val < (n + 1) * 512; omega)⟩
  · rintro ⟨h1, h2⟩ r hr
    by_cases hlt : r.val < n * 512
    · exact h1 r hlt
    · have er : (⟨n * 512 + (r.val - n * 512), rows0 ⟨n, hN⟩ ⟨r.val - n * 512, by omega⟩⟩ : Fin 16384) = r :=
        Fin.ext (by show n * 512 + (r.val - n * 512) = r.val; omega)
      rw [← er]
      exact h2 ⟨r.val - n * 512, by omega⟩

/-- What is at most a column's running minimum after `n` blocks: what is at most the gray values of the rows so far. -/
theorem le_minAt (n : ℕ) (hn : n ≤ 32) (q : Fin 1024) (z : EReal) :
    z ≤ (minAt W c n (ix2 0 q) : EReal) ↔ ∀ r : Fin 16384, r.val < n * 512 → z ≤ weigh (W c ↑main_v2) (W c ↑main_v5) (W c ↑main_v8) (ix2 r q) := by
  induction n with
  | zero =>
    show z ≤ (k0_pay5 (F := Ideal) (ix2 0 q) : EReal) ↔ _
    rw [pay5_at]
    exact ⟨fun _ r h => absurd h (by omega), fun _ => le_top⟩
  | succ n ih =>
    have hN : n < cfg0.N := Nat.lt_of_lt_of_eq (by omega) N_0.symm
    have e : minAt W c (n + 1) = k0_pay7 (blk0 W c 0 ⟨n, hN⟩) (blk0 W c 1 ⟨n, hN⟩) (blk0 W c 2 ⟨n, hN⟩) (minAt W c n) := by
      rw [← minStep_eq W c ⟨n, hN⟩ (minAt W c n) fun _ => rfl]
      unfold minStep
      split
      · next h => obtain rfl : n = 0 := (first0_iff _).1 h; rfl
      · rfl
    rw [e]
    refine (le_pay7 _ _ _ _ q z).trans ?_
    rw [ih (by omega), rows_split n hN]
    refine and_congr_right fun _ => forall_congr' fun r => ?_
    rw [blk0_0, blk0_1, blk0_2]
    rfl

/-- What is at least a column's running maximum after `n` blocks: what is at least the gray values of the rows so far. -/
theorem maxAt_le (n : ℕ) (hn : n ≤ 32) (q : Fin 1024) (z : EReal) :
    (maxAt W c n (ix2 0 q) : EReal) ≤ z ↔ ∀ r : Fin 16384, r.val < n * 512 → weigh (W c ↑main_v2) (W c ↑main_v5) (W c ↑main_v8) (ix2 r q) ≤ z := by
  induction n with
  | zero =>
    show (k0_pay6 (F := Ideal) (ix2 0 q) : EReal) ≤ z ↔ _
    rw [pay6_at]
    exact ⟨fun _ r h => absurd h (by omega), fun _ => bot_le⟩
  | succ n ih =>
    have hN : n < cfg0.N := Nat.lt_of_lt_of_eq (by omega) N_0.symm
    have e : maxAt W c (n + 1) = k0_pay1 (k0_pay8 (blk0 W c 0 ⟨n, hN⟩) (blk0 W c 1 ⟨n, hN⟩) (blk0 W c 2 ⟨n, hN⟩) (maxAt W c n)) := by
      rw [← maxStep_eq W c ⟨n, hN⟩ (maxAt W c n) fun _ => rfl]
      unfold maxStep
      split
      · next h => obtain rfl : n = 0 := (first0_iff _).1 h; rfl
      · rfl
    rw [e]
    refine (pay8_le _ _ _ _ q z).trans ?_
    rw [ih (by omega), rows_split n hN]
    refine and_congr_right fun _ => forall_congr' fun r => ?_
    rw [blk0_0, blk0_1, blk0_2]
    rfl

end Blocks

section Value

variable (m : (ℓ : Loc nD τ sig) → Buf (Elt Ideal) ℓ) (c : Dev nD)

/-- The batch the program starts from. -/
def batch : Images := m (c, Proc.devRef .tc main_arg0)

/-- The weighted sum of the three channels is the gray image. -/
theorem weigh_pixel (r : Fin 16384) (q : Fin 1024) :
    weigh (W1 m c ↑main_v2) (W1 m c ↑main_v5) (W1 m c ↑main_v8) (ix2 r q) = pixel (batch m c) r q := by
  unfold weigh W1
  rw [chan_red, chan_green, chan_blue]
  rfl

/-- After the first call the gray array holds the gray image, -/
theorem gray_W3 (r : Fin 16384) (q : Fin 1024) : W3 m c ↑main_v9_0 (ix2 r q) = pixel (batch m c) r q := by
  rw [← weigh_pixel, ← arr0_3]
  unfold W3
  rw [after_of_writes_sub hostOps1 _ hostOps1_writes (by decide)]
  exact congrFun (afterRegion_arr (dat0 (W1 m) c) (W1 m c) winFacts0.arr_inj 3) _

/-- and the range row's array the range row. -/
theorem range_W2 : W2 m c ↑main_v9_1 = rangeRow (minAt (W1 m) c 32) (maxAt (W1 m) c 32) :=
  (afterRegion_arr (dat0 (W1 m) c) (W1 m c) winFacts0.arr_inj 4).trans (arr0_4 (W1 m) c)

/-- The minimum is the least gray value, -/
theorem least_W3 : IsLeast (batch m c) (W3 m c ↑main_v13 (ix2 0 0)) := fun z => by
  unfold W3
  rw [range_v13, range_W2]
  refine (le_range _ _ z).trans ?_
  constructor
  · intro h r q
    have := (le_minAt (W1 m) c 32 le_rfl q z).1 (h q) r r.isLt
    rwa [weigh_pixel] at this
  · intro h q
    refine (le_minAt (W1 m) c 32 le_rfl q z).2 fun r _ => ?_
    rw [weigh_pixel]; exact h r q

/-- the maximum the greatest. -/
theorem greatest_W3 : IsGreatest (batch m c) (W3 m c ↑main_v17 (ix2 0 0)) := fun z => by
  unfold W3
  rw [range_v17, range_W2]
  refine (range_le _ _ z).trans ?_
  constructor
  · intro h r q
    have := (maxAt_le (W1 m) c 32 le_rfl q z).1 (h q) r r.isLt
    rwa [weigh_pixel] at this
  · intro h q
    refine (maxAt_le (W1 m) c 32 le_rfl q z).2 fun r _ => ?_
    rw [weigh_pixel]; exact h r q

end Value

end Cert.KernelIdeal.Hand
-- ==== Proof.Pack.lean ====
/- Four small counts packed into the four bytes of one 32-bit word: how a bin is split into a word and a byte, what one more element does
   to the word, and how a byte is read back. -/
module

public import Idealize.ShloMosaic.PureOps.Ideal.Laws

@[expose] public section

noncomputable section

open Idealize.ShloMosaic

namespace Cert.Otsu

/-- How many of the first `n` numbers of the sequence `b` are `j`. -/
def tally (b : ℕ → ℕ) (j n : ℕ) : ℕ := ((Finset.range n).filter fun t => b t = j).card

/-- One number more. -/
theorem tally_succ (b : ℕ → ℕ) (j n : ℕ) : tally b j (n + 1) = tally b j n + if b n = j then 1 else 0 := by
  unfold tally
  rw [Finset.range_add_one, Finset.filter_insert]
  split
  · rw [Finset.card_insert_of_notMem (by simp)]
  · rfl

/-- A count among `n` numbers is at most `n`. -/
theorem tally_le (b : ℕ → ℕ) (j n : ℕ) : tally b j n ≤ n :=
  (Finset.card_filter_le _ _).trans (Finset.card_range n).le

/-- The counts of `4 s`, `4 s + 1`, `4 s + 2` and `4 s + 3`, as the bytes of one number, the first the lowest. -/
def packed (b : ℕ → ℕ) (s n : ℕ) : ℕ :=
  tally b (4 * s) n + 256 * tally b (4 * s + 1) n + 65536 * tally b (4 * s + 2) n + 16777216 * tally b (4 * s + 3) n

/-- Nothing is counted yet. -/
theorem packed_zero (b : ℕ → ℕ) (s : ℕ) : packed b s 0 = 0 := rfl

/-- One number more adds one to its byte, if it is one of the four. -/
theorem packed_succ (b : ℕ → ℕ) (s n : ℕ) : packed b s (n + 1) = packed b s n + if b n / 4 = s then 256 ^ (b n % 4) else 0 := by
  unfold packed
  simp only [tally_succ]
  have h : b n % 4 = 0 ∨ b n % 4 = 1 ∨ b n % 4 = 2 ∨ b n % 4 = 3 := by omega
  rcases h with h | h | h | h <;> rw [h] <;> split_ifs <;> omega

/-- Counts of at most 255 do not run over, so each is read back from its byte. -/
theorem packed_byte (b : ℕ → ℕ) (s n : ℕ) (hn : n < 256) : packed b s n < 2 ^ 32 ∧ packed b s n / 2 ^ 0 % 256 = tally b (4 * s) n
    ∧ packed b s n / 2 ^ 8 % 256 = tally b (4 * s + 1) n ∧ packed b s n / 2 ^ 16 % 256 = tally b (4 * s + 2) n
    ∧ packed b s n / 2 ^ 24 % 256 = tally b (4 * s + 3) n := by
  have h0 := tally_le b (4 * s) n
  have h1 := tally_le b (4 * s + 1) n
  have h2 := tally_le b (4 * s + 2) n
  have h3 := tally_le b (4 * s + 3) n
  unfold packed
  refine ⟨?_, ?_, ?_, ?_, ?_⟩ <;> omega

/-- Shifting a word down and keeping its low byte. -/
theorem byte_word (N k : ℕ) (hN : N < 2 ^ 32) (hk : k < 32) :
    (IntOp.andi (IntOp.shrui .vector (BitVec.ofNat 32 N) (BitVec.ofNat 32 k)) 255#32).toInt = ((N / 2 ^ k % 256 : ℕ) : ℤ) := by
  have ht : (BitVec.ofNat 32 k).toNat = k := by rw [BitVec.toNat_ofNat]; omega
  have e : (IntOp.andi (IntOp.shrui .vector (BitVec.ofNat 32 N) (BitVec.ofNat 32 k)) 255#32).toNat = N / 2 ^ k % 256 := by
    unfold IntOp.andi IntOp.shrui
    rw [ht, if_pos hk, BitVec.toNat_and]
    show (BitVec.ofNat 32 N >>> (BitVec.ofNat 32 k)).toNat &&& (2 ^ 8 - 1) = _
    rw [Nat.and_two_pow_sub_one_eq_mod, BitVec.ushiftRight_eq', BitVec.toNat_ushiftRight, ht, BitVec.toNat_ofNat, Nat.mod_eq_of_lt hN,
      Nat.shiftRight_eq_div_pow]
  rw [BitVec.toInt_eq_toNat_of_lt (by rw [e]; omega), e]

/-- A bin's word is its quotient by four. -/
theorem word_slab : ∀ n : Fin 256, IntOp.shrui .vector (BitVec.ofNat 32 n.val) 2#32 = BitVec.ofNat 32 (n.val / 4) := by decide +kernel

/-- A bin's byte is picked by its remainder. -/
theorem word_weight : ∀ n : Fin 256,
    Scalar.select (IntOp.cmpi .eq (IntOp.andi (BitVec.ofNat 32 n.val) 3#32) 0#32) 1#32
      (Scalar.select (IntOp.cmpi .eq (IntOp.andi (BitVec.ofNat 32 n.val) 3#32) 1#32) 256#32
        (Scalar.select (IntOp.cmpi .eq (IntOp.andi (BitVec.ofNat 32 n.val) 3#32) 2#32) 65536#32 16777216#32))
      = BitVec.ofNat 32 (256 ^ (n.val % 4)) := by decide +kernel

/-- A word is chosen by its number. -/
theorem word_pick (a b : ℕ) (ha : a < 256) (hb : b < 256) (x : BitVec 32) :
    Scalar.select (IntOp.cmpi .eq (BitVec.ofNat 32 a) (BitVec.ofNat 32 b)) x 0#32 = if a = b then x else 0#32 := by
  by_cases h : a = b
  · subst h; simp [IntOp.cmpi, Scalar.select]
  · have hne : BitVec.ofNat 32 a ≠ BitVec.ofNat 32 b := fun e => h (by
      have := congrArg BitVec.toNat e
      rw [BitVec.toNat_ofNat, BitVec.toNat_ofNat] at this
      omega)
    have hf : (BitVec.ofNat 32 a == BitVec.ofNat 32 b) = false := beq_eq_false_iff_ne.mpr hne
    rw [if_neg h]; simp [IntOp.cmpi, Scalar.select, hf]

/-- A sum of counts, each read as an extended real. -/
theorem sum_counts {α : Type} (S : Finset α) (n : α → ℕ) : ∑ i ∈ S, (((n i : ℕ) : ℝ) : EReal) = (((∑ i ∈ S, n i : ℕ) : ℝ) : EReal) := by
  classical
  induction S using Finset.induction_on with
  | empty => simp
  | insert a S ha ih => rw [Finset.sum_insert ha, Finset.sum_insert ha, ih, Nat.cast_add, EReal.coe_add]

end Cert.Otsu
-- ==== Proof.KPay1.lean ====
/- The second call's arithmetic at `Ideal`: the bin of an element split into a slab number and a byte, the packed update, and the four
   byte planes of a packed accumulator. -/
module

public import proofs.«01_k».proof.Proof.Body1
public import proofs.«01_k».proof.Proof.Gray
public import proofs.«01_k».proof.Proof.Pack

@[expose] public section

set_option maxRecDepth 8192

noncomputable section

namespace Cert.KernelIdeal.Hand

open Cert.KernelIdeal Cert.KernelIdeal.Gen
open Idealize.ShloMosaic Idealize.ShloMosaic.TcCoe
open Cert.Otsu

/-- The bin of an element of a block. -/
theorem bin_at (mn mx : EReal) (x : S128x1024.Idx → EReal) (r : Fin 128) (q : Fin 1024) :
    k1_pay10 (F := Ideal) mn mx x (ix2 r q) = BitVec.ofNat 32 (bin mn mx (x (ix2 r q))) := by
  unfold bin width
  rw [← bin_clip_float, ← ofBits_255, ← ofBits_256]
  pointwise [k1_pay10]
  rfl

/-- The one entry of a 1 by 1 array is at row 0 and column 0. -/
theorem only_eq (x : S1x1.Idx → EReal) : only (F := Ideal) x = x (ix2 0 0) :=
  congrArg x (funext fun a => by fin_cases a <;> exact Subsingleton.elim (α := Fin 1) _ _)

/-- The slab of an element: its bin's quotient by four. -/
theorem slab_at (mn mx : S1x1.Idx → EReal) (x : S128x1024.Idx → EReal) (r : Fin 128) (q : Fin 1024) :
    slabNo (F := Ideal) mn mx x (ix2 r q) = BitVec.ofNat 32 (bin (mn (ix2 0 0)) (mx (ix2 0 0)) (x (ix2 r q)) / 4) := by
  unfold slabNo
  pointwise [k1_pay1, k1_pay11]
  rw [bin_at, only_eq, only_eq]
  exact word_slab ⟨_, bin_lt _ _ _⟩

/-- What an element adds there: one, in the byte its bin's remainder by four picks. -/
theorem weight_at (mn mx : S1x1.Idx → EReal) (x : S128x1024.Idx → EReal) (r : Fin 128) (q : Fin 1024) :
    weightNo (F := Ideal) mn mx x (ix2 r q) = BitVec.ofNat 32 (256 ^ (bin (mn (ix2 0 0)) (mx (ix2 0 0)) (x (ix2 r q)) % 4)) := by
  unfold weightNo
  pointwise [k1_pay2, k1_pay12]
  rw [bin_at, only_eq, only_eq]
  exact word_weight ⟨_, bin_lt _ _ _⟩

/-- One block's update of the accumulator at a position: the weight is added in the slab it is for. -/
theorem bump_at (q b : S128x1024.Idx → BitVec 32) (A : S64x128x1024.Idx → BitVec 32) (s : Fin 64) (r : Fin 128) (k : Fin 1024)
    (n : ℕ) (hn : n < 256) (hq : q (ix2 r k) = BitVec.ofNat 32 n) :
    bump (F := Ideal) q b A (ix3 s r k) = A (ix3 s r k) + (if n = s.val then b (ix2 r k) else 0#32) := by
  have hA : slab (F := Ideal) A (tripOf (ix3 s r k)) (ix3 0 r k) = A (ix3 s r k) :=
    congrArg A (funext fun a => by fin_cases a <;> rfl)
  have hs : Scf.iv 0#32 1#32 (tripOf (ix3 s r k)).val = BitVec.ofNat 32 s.val := by
    unfold Scf.iv
    rw [BitVec.mul_one, BitVec.zero_add]
    rfl
  rw [← word_pick n s.val hn (by omega)]
  unfold bump
  show k1_pay3 (F := Ideal) (tripOf (ix3 s r k)) q b (slab (F := Ideal) A (tripOf (ix3 s r k))) (ix3 0 r k) = _
  pointwise [k1_pay3]
  rw [hs, hq, hA]
  rfl

/-- A word read as an extended real is its signed value. -/
theorem word_real (b : BitVec 32) (n : ℕ) (h : b.toInt = (n : ℤ)) : (FloatOps.sitofp .f32 b : Ideal .f32) = ((n : ℝ) : EReal) := by
  show ((b.toInt : ℝ) : EReal) = _
  rw [h, Int.cast_natCast]

/-- Plane `p` of packed counts of at most 255 is the sum over the rows of the counts of byte `p`. -/
theorem planes_at (A : S64x128x1024.Idx → BitVec 32) (s : Fin 64) (k : Fin 1024) (n : ℕ) (hn : n < 256) (b : Fin 128 → ℕ → ℕ)
    (hA : ∀ r, A (ix3 s r k) = BitVec.ofNat 32 (packed (b r) s.val n)) (p : Fin 4) :
    (planes (F := Ideal) A (ix4 0 p s k) : EReal) = ∑ r : Fin 128, ((tally (b r) (4 * s.val + p.val) n : ℝ) : EReal) := by
  have byte : ∀ (r : Fin 128) (j : ℕ), j < 32 → ∀ m : ℕ, packed (b r) s.val n / 2 ^ j % 256 = m →
      (FloatOps.sitofp .f32 (IntOp.andi (IntOp.shrui .vector (A (ix3 s r k)) (BitVec.ofNat 32 j)) 255#32) : Ideal .f32) = ((m : ℝ) : EReal) :=
    fun r j hj m hm => word_real _ _ (by rw [hA, byte_word _ _ (packed_byte (b r) s.val n hn).1 hj, hm])
  fin_cases p
  · show k1_pay6 (F := Ideal) A (ix4 0 0 s k) = _
    pointwise [k1_pay6]
    exact Finset.sum_congr rfl fun r _ => byte r 0 (by decide) _ (packed_byte (b r) s.val n hn).2.1
  · show k1_pay7 (F := Ideal) A (ix4 0 0 s k) = _
    pointwise [k1_pay7]
    exact Finset.sum_congr rfl fun r _ => byte r 8 (by decide) _ (packed_byte (b r) s.val n hn).2.2.1
  · show k1_pay4 (F := Ideal) (k1_pay8 (F := Ideal) A) (ix4 0 0 s k) = _
    pointwise [k1_pay4, k1_pay8]
    exact Finset.sum_congr rfl fun r _ => byte r 16 (by decide) _ (packed_byte (b r) s.val n hn).2.2.2.1
  · show k1_pay5 (F := Ideal) A (ix4 0 0 s k) = _
    pointwise [k1_pay5]
    exact Finset.sum_congr rfl fun r _ => byte r 24 (by decide) _ (packed_byte (b r) s.val n hn).2.2.2.2

end Cert.KernelIdeal.Hand
-- ==== Proof.KHist.lean ====
/- The second call at `Ideal`: the histogram. Every position of the accumulator packs the counts of four bins; the planes unpack them, and
   the host operations after the call add them up over rows and columns. -/
module

public import proofs.«01_k».proof.Proof.KGray
public import proofs.«01_k».proof.Proof.KPay1

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Pipeline
open Cert.Otsu

/-- The bins met at row `r` of the blocks of 128 rows of one column, block after block. -/
def met (mn mx : EReal) (g : Fin 16384 → EReal) (r : Fin 128) (t : ℕ) : ℕ :=
  if h : t * 128 + r.val < 16384 then bin mn mx (g ⟨t * 128 + r.val, h⟩) else 0

/-- Adding a function of the 16384 rows block by block. -/
theorem sum_rows (g : Fin 16384 → ℕ) : ∑ i : Fin 16384, g i = ∑ r : Fin 128, ∑ t : Fin 128, g ⟨t.val * 128 + r.val, by omega⟩ := by
  rw [← (finProdFinEquiv (m := 128) (n := 128)).sum_comp (fun i => g i), Fintype.sum_prod_type_right]
  refine Finset.sum_congr rfl fun r _ => Finset.sum_congr rfl fun t _ => congrArg g (Fin.ext ?_)
  show r.val + 128 * t.val = t.val * 128 + r.val
  omega

/-- The counts of one bin over the rows of the blocks and over the columns add up to its count over the image. -/
theorem sum_met (mn mx : EReal) (f : Fin 16384 → Fin 1024 → EReal) (j : ℕ) :
    ∑ k : Fin 1024, ∑ r : Fin 128, tally (met mn mx (fun i => f i k) r) j 128
      = ((Finset.univ : Finset (Fin 16384 × Fin 1024)).filter fun p => bin mn mx (f p.1 p.2) = j).card := by
  rw [Finset.card_filter, Fintype.sum_prod_type_right]
  refine Finset.sum_congr rfl fun k _ => ?_
  rw [sum_rows]
  refine Finset.sum_congr rfl fun r _ => ?_
  unfold tally
  rw [Finset.card_filter, Finset.sum_range]
  refine Finset.sum_congr rfl fun t _ => ?_
  rw [show met mn mx (fun i => f i k) r t.val = bin mn mx (f ⟨t.val * 128 + r.val, by omega⟩ k) from dif_pos (by omega)]

section Blocks

variable (W : Dev nD → Valuation τ sig (Elt Ideal)) (c : Dev nD)

/-- The least gray value, as the call finds it. -/
def lo : EReal := W c ↑main_v13 (ix2 0 0)
/-- The greatest gray value, as the call finds it. -/
def hi : EReal := W c ↑main_v17 (ix2 0 0)
/-- The gray image, as the call finds it. -/
def img (r : Fin 16384) (k : Fin 1024) : EReal := W c ↑main_v9_0 (ix2 r k)

/-- The blocks of the second call: the two range ends whole, and 128 rows of the image each, in order. -/
theorem idx1 : ∀ t : Fin cfg1.N, win1_0.index t = ![0, 0] ∧ win1_1.index t = ![0, 0] ∧ win1_2.index t = ![t.val, 0]
    ∧ win1_3.index t = ![0, 0, 0, 0] :=
  (by decide +kernel : ∀ t : Fin grid1.N, _)

/-- Row `r` of block `t` is a row of the image. -/
theorem rows1 (t : Fin cfg1.N) (r : Fin 128) : t.val * 128 + r.val < 16384 := by
  have := Nat.lt_of_lt_of_eq t.isLt N_1; omega

/-- The block of the least gray value. -/
theorem blk1_0 (t : Fin cfg1.N) : blk1 W c 0 t (ix2 0 0) = lo W c := by
  unfold lo
  blk_ext! [blk1, idx1 t]

/-- The block of the greatest gray value. -/
theorem blk1_1 (t : Fin cfg1.N) : blk1 W c 1 t (ix2 0 0) = hi W c := by
  unfold hi
  blk_ext! [blk1, idx1 t]

/-- The blocks of the image. -/
theorem blk1_2 (t : Fin cfg1.N) (r : Fin 128) (k : Fin 1024) :
    blk1 W c 2 t (ix2 r k) = img W c ⟨t.val * 128 + r.val, rows1 t r⟩ k := by
  unfold img
  blk_ext! [blk1, idx1 t]

/-- After `n` blocks a position of the accumulator packs the counts of its four bins among the `n` pixels met there. -/
theorem packedAt_at (n : ℕ) (hn : n ≤ 128) (s : Fin 64) (r : Fin 128) (k : Fin 1024) :
    packedAt W c n (ix3 s r k) = BitVec.ofNat 32 (packed (met (lo W c) (hi W c) (fun i => img W c i k) r) s.val n) := by
  induction n with
  | zero => rw [packed_zero]; rfl
  | succ n ih =>
    have hN : n < cfg1.N := Nat.lt_of_lt_of_eq (by omega) N_1.symm
    have e : packedAt W c (n + 1) = bump (slabNo (blk1 W c 0 ⟨n, hN⟩) (blk1 W c 1 ⟨n, hN⟩) (blk1 W c 2 ⟨n, hN⟩))
        (weightNo (blk1 W c 0 ⟨n, hN⟩) (blk1 W c 1 ⟨n, hN⟩) (blk1 W c 2 ⟨n, hN⟩)) (packedAt W c n) := by
      rw [packedAt_succ W c ⟨n, hN⟩]
      unfold accStep
      split
      · next h => obtain rfl : n = 0 := (first1_iff _).1 h; rfl
      · rfl
    have hm : met (lo W c) (hi W c) (fun i => img W c i k) r n
        = bin (blk1 W c 0 ⟨n, hN⟩ (ix2 0 0)) (blk1 W c 1 ⟨n, hN⟩ (ix2 0 0)) (blk1 W c 2 ⟨n, hN⟩ (ix2 r k)) := by
      rw [blk1_0, blk1_1, blk1_2]
      exact dif_pos (rows1 ⟨n, hN⟩ r)
    have hs := slab_at (blk1 W c 0 ⟨n, hN⟩) (blk1 W c 1 ⟨n, hN⟩) (blk1 W c 2 ⟨n, hN⟩) r k
    have hw := weight_at (blk1 W c 0 ⟨n, hN⟩) (blk1 W c 1 ⟨n, hN⟩) (blk1 W c 2 ⟨n, hN⟩) r k
    have hb := bin_lt (blk1 W c 0 ⟨n, hN⟩ (ix2 0 0)) (blk1 W c 1 ⟨n, hN⟩ (ix2 0 0)) (blk1 W c 2 ⟨n, hN⟩ (ix2 r k))
    rw [← hm] at hs hw hb
    rw [e]
    refine (bump_at _ _ _ s r k _ (by omega) hs).trans ?_
    rw [ih (by omega), packed_succ, hw, BitVec.ofNat_add]
    split <;> rfl

/-- The second call's last point. -/
def end1 : Fin cfg1.N := ⟨127, Nat.lt_of_lt_of_eq (by decide) N_1.symm⟩

/-- The planes' array after the call. -/
theorem arr1_3 : (dat1 W c).arrAt 3 cfg1.N = planes (packedAt W c 128) := by
  refine (dat1 W c).arrAt_eq_of_after_last 3 end1 (by decide +kernel) _ (fun j => ?_)
  blk_simp
  exact congrFun (dat1_after_3 W c end1) _

/-- The planes' array after the call: at each plane, slab and column the counts of a bin over the column. -/
theorem arr1_3_at (p : Fin 4) (s : Fin 64) (k : Fin 1024) : (planes (packedAt W c 128) (ix4 0 p s k) : EReal)
    = ∑ r : Fin 128, ((tally (met (lo W c) (hi W c) (fun i => img W c i k) r) (4 * s.val + p.val) 128 : ℝ) : EReal) :=
  planes_at _ s k 128 (by decide) _ (fun r => packedAt_at W c 128 le_rfl s r k) p

end Blocks

section Host

variable (V : Valuation τ sig (Elt Ideal))

/-- The planes' array, as the operations after the call find it. -/
def planeArr : S1x4x64x1024.Idx → EReal := V ↑main_v18

/-- The planes' positions of one plane and slab: one for each column. -/
theorem fiber_hist (p : Fin 4) (s : Fin 64) (i : S1x4x64x1024.Idx) :
    reducesTo_S1x4x64x1024_S4x64_d0_3.drop i = ix2 p s ↔ ∃ k : Fin 1024, (ix4 0 p s k : S1x4x64x1024.Idx) = i := by
  constructor
  · intro e
    refine ⟨i 3, funext fun a => Fin.ext ?_⟩
    match a with
    | ⟨0, _⟩ => have h : (i 0).val < 1 := (i 0).isLt; show 0 = (i 0).val; omega
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- Adding the planes up over the columns. -/
theorem sum_hist (x : S1x4x64x1024.Idx → EReal) (p : Fin 4) (s : Fin 64) :
    Ideal.hostReduceAdd reducesTo_S1x4x64x1024_S4x64_d0_3 x 0 (ix2 p s) = ∑ k : Fin 1024, x (ix4 0 p s k) := by
  unfold Ideal.hostReduceAdd
  rw [zero_add]
  exact Finset.sum_filter_eq_sum_of_fiber _ (fun k : Fin 1024 => (ix4 0 p s k : S1x4x64x1024.Idx)) (fun _ _ e => congrFun e 3) (fiber_hist p s) x

/-- The histogram: bin `4 s + p` adds up plane `p` of slab `s` over the columns. -/
theorem hist_at (s : Fin 64) (p : Fin 4) : (after hostOps2 V ↑main_v21 (ix2 0 ⟨4 * s.val + p.val, by omega⟩) : EReal)
    = ∑ k : Fin 1024, planeArr V (ix4 0 p s k) := by
  unfold hostOps2
  after_results_simp
  pointwise
  exact sum_hist _ p s

end Host

section Value

variable (m : (ℓ : Loc nD τ sig) → Buf (Elt Ideal) ℓ) (c : Dev nD)

/-- The second call finds the gray image. -/
theorem img_W3 : img (W3 m) c = pixel (batch m c) := funext fun r => funext fun k => gray_W3 m c r k

/-- After the second call and the operations after it the histogram holds the counts of the bins. -/
theorem hist_W5 (j : Fin 256) : (W5 m c ↑main_v21 (ix2 0 j) : EReal) = ((count (batch m c) (lo (W3 m) c) (hi (W3 m) c) j : ℝ) : EReal) := by
  obtain ⟨s, p, rfl⟩ : ∃ (s : Fin 64) (p : Fin 4), j = ⟨4 * s.val + p.val, by omega⟩ :=
    ⟨⟨j.val / 4, by omega⟩, ⟨j.val % 4, by omega⟩, Fin.ext (by show j.val = 4 * (j.val / 4) + j.val % 4; omega)⟩
  unfold W5
  have hp : planeArr (W4 m c) = planes (packedAt (W3 m) c 128) :=
    (afterRegion_arr (dat1 (W3 m) c) (W3 m c) winFacts1.arr_inj 3).trans (arr1_3 (W3 m) c)
  have e : ∑ k : Fin 1024, planeArr (W4 m c) (ix4 0 p s k)
      = ((count (batch m c) (lo (W3 m) c) (hi (W3 m) c) ⟨4 * s.val + p.val, by omega⟩ : ℝ) : EReal) := by
    unfold Otsu.count
    rw [← sum_met, ← sum_counts, ← img_W3, hp]
    exact Finset.sum_congr rfl fun k _ => (arr1_3_at (W3 m) c p s k).trans (sum_counts _ _)
  exact (hist_at _ s p).trans e

end Value

end Cert.KernelIdeal.Hand
-- ==== Proof.KPay2.lean ====
/- The third call's arithmetic at `Ideal`: the bin centers, the lower sums, the upper sums, the score and the threshold it picks. -/
module

public import proofs.«01_k».proof.Proof.Body2
public import proofs.«01_k».proof.Proof.KPay1

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Cert.Otsu

/-- The center of a bin. -/
theorem center_at (a b : EReal) (k : Fin 256) : (k2_pay4 (F := Ideal) a b (ix2 0 k) : EReal) = center a b k := by
  have hk : (FloatOps.sitofp .f32 (BitVec.ofNat 32 k.val) : Ideal .f32) = ((k.val : ℝ) : EReal) :=
    word_real _ _ (by rw [BitVec.toInt_eq_toNat_of_lt (by rw [BitVec.toNat_ofNat]; omega), BitVec.toNat_ofNat]; omega)
  unfold center width
  rw [← ofBits_256, ← ofBits_half, ← hk]
  pointwise [k2_pay4]

/-- Two bin numbers compared as words. -/
theorem word_le (j k : Fin 256) : IntOp.cmpi .sle (BitVec.ofNat 32 j.val) (BitVec.ofNat 32 k.val) = if j ≤ k then 1#1 else 0#1 := by
  have e : ∀ n : Fin 256, (BitVec.ofNat 32 n.val).toInt = n.val := fun n => by
    rw [BitVec.toInt_eq_toNat_of_lt (by rw [BitVec.toNat_ofNat]; omega), BitVec.toNat_ofNat]; omega
  show BitVec.ofBool (decide ((BitVec.ofNat 32 j.val).toInt ≤ (BitVec.ofNat 32 k.val).toInt)) = _
  rw [e, e]
  by_cases h : j ≤ k
  · rw [if_pos h, decide_eq_true (Int.ofNat_le.mpr h)]; rfl
  · rw [if_neg h, decide_eq_false (fun h' => h (Int.ofNat_le.mp h'))]; rfl

/-- A bin number compared with the last one as words. -/
theorem word_below : ∀ k : Fin 256, IntOp.cmpi .slt (BitVec.ofNat 32 k.val) 255#32 = if k.val < 255 then 1#1 else 0#1 := by
  decide +kernel

/-- A number times an entry of the triangle of ones. -/
theorem triangle_at (j k : Fin 256) (z : EReal) : z * k2_pay5 (F := Ideal) (ix2 j k) = if j ≤ k then z else 0 := by
  pointwise [k2_pay5]
  rw [word_le]
  split <;> rfl

/-- A row times the triangle of ones is its lower sums. -/
theorem sum_triangle (f : Fin 256 → EReal) (k : Fin 256) : ∑ j, f j * k2_pay5 (F := Ideal) (ix2 j k) = lower f k :=
  Finset.sum_congr rfl fun j _ => triangle_at j k (f j)

/-- The lower sums of the counts. -/
theorem lower_at (h : S1x256.Idx → EReal) (k : Fin 256) : (k2_pay6 (F := Ideal) h (ix2 0 k) : EReal) = lower (fun j => h (ix2 0 j)) k := by
  rw [← sum_triangle]
  pointwise [k2_pay6, k2_pay3]

/-- The upper sums of the counts. -/
theorem rest_at (h : S1x256.Idx → EReal) (k : Fin 256) : (k2_pay7 (F := Ideal) h (ix2 0 k) : EReal) = rest (fun j => h (ix2 0 j)) k := by
  unfold Otsu.rest
  rw [← lower_at, ← lower_at]
  pointwise [k2_pay7, k2_pay3]

/-- The bin after one of the first 255, -/
theorem next_of_lt (k : Fin 256) (h : k.val < 255) (h' : 1 + k.val < 256) : (⟨1 + k.val, h'⟩ : Fin 256) = next k := by
  unfold next
  exact Fin.ext (by rw [Fin.val_add]; show 1 + k.val = (k.val + 1) % 256; omega)

/-- and after the last. -/
theorem next_of_not_lt (k : Fin 256) (h : ¬ k.val < 255) (h' : k.val - 255 < 256) : (⟨k.val - 255, h'⟩ : Fin 256) = next k := by
  unfold next
  exact Fin.ext (by rw [Fin.val_add]; show k.val - 255 = (k.val + 1) % 256; omega)

/-- The upper sums of the counts, each at the bin before. -/
theorem shifted_at (h : S1x256.Idx → EReal) (k : Fin 256) : (k2_pay8 (F := Ideal) h (ix2 0 k) : EReal) = rest (fun j => h (ix2 0 j)) (next k) := by
  rw [← rest_at]
  pointwise [k2_pay8]
  split
  · next hk => rw [next_of_lt k hk]
  · next hk => rw [next_of_not_lt k hk]

/-- The counts times the centers. -/
theorem weighted_at (a b : EReal) (h : S1x256.Idx → EReal) (k : Fin 256) :
    (k2_pay3 (F := Ideal) h (ix2 0 k) : EReal) * k2_pay4 (F := Ideal) a b (ix2 0 k) = h (ix2 0 k) * center a b k := by
  rw [center_at]
  pointwise [k2_pay3]

/-- The difference of the two means. -/
theorem means_at (a b : EReal) (h : S1x256.Idx → EReal) (k : Fin 256) : (k2_pay9 (F := Ideal) a b h (ix2 0 k) : EReal)
    = mean (lower (fun j => h (ix2 0 j) * center a b j) k) (lower (fun j => h (ix2 0 j)) k)
      - mean (rest (fun j => h (ix2 0 j) * center a b j) (next k)) (rest (fun j => h (ix2 0 j)) (next k)) := by
  pointwise [k2_pay9]
  simp only [weighted_at, sum_triangle (fun j => h (ix2 0 j) * center a b j), lower_at, rest_at]
  split
  · next hk => rw [next_of_lt k hk]; rfl
  · next hk => rw [next_of_not_lt k hk]; rfl

/-- The threshold chosen: the least center among the bins of greatest masked score. -/
theorem chosen_at (x0 x1 : S1x1.Idx → EReal) (h : S1x256.Idx → EReal) :
    (chosen (F := Ideal) x0 x1 h : EReal) = leastCenter (fun k => h (ix2 0 k)) (center (x0 (ix2 0 0)) (x1 (ix2 0 0))) := by
  have hs : ∀ k : Fin 256, Scalar.select (IntOp.cmpi .slt (BitVec.ofNat 32 k.val) 255#32)
      ((k2_pay6 (F := Ideal) h (ix2 0 k) : EReal) * k2_pay8 (F := Ideal) h (ix2 0 k)
        * k2_pay9 (F := Ideal) (x0 (ix2 0 0)) (x1 (ix2 0 0)) h (ix2 0 k) * k2_pay9 (F := Ideal) (x0 (ix2 0 0)) (x1 (ix2 0 0)) h (ix2 0 k))
      (Ideal.ofBits .f32 0xBF800000#32) = masked (fun k => h (ix2 0 k)) (center (x0 (ix2 0 0)) (x1 (ix2 0 0))) k := fun k => by
    rw [word_below, lower_at, shifted_at, means_at, mul_assoc, ofBits_neg_one]
    unfold masked scoreOf
    split <;> rfl
  unfold chosen leastCenter
  rw [only_eq, only_eq, ← ofBits_top, ← ofBits_bot]
  pointwise [k2_pay1]
  simp only [hs, center_at]

/-- The image compared with the threshold. -/
theorem above_at (t : EReal) (x : S512x1024.Idx → EReal) (r : Fin 512) (q : Fin 1024) :
    (k2_pay2 (F := Ideal) t x (ix2 r q) : EReal) = above t (x (ix2 r q)) := by
  unfold above
  pointwise [k2_pay2]

end Cert.KernelIdeal.Hand
-- ==== Proof.KValue.lean ====
/- The third call at `Ideal`, and what the program leaves in its result: the gray image compared with the threshold. -/
module

public import proofs.«01_k».proof.Proof.KHist
public import proofs.«01_k».proof.Proof.KPay2

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Pipeline
open Cert.Otsu

section Blocks

variable (W : Dev nD → Valuation τ sig (Elt Ideal)) (c : Dev nD)

/-- The histogram, as the call finds it. -/
def hist (k : Fin 256) : EReal := W c ↑main_v21 (ix2 0 k)

/-- The blocks of the third call: the two range ends and the histogram whole, and 512 rows of the image each, in order. -/
theorem idx2 : ∀ t : Fin cfg2.N, win2_0.index t = ![0, 0] ∧ win2_1.index t = ![0, 0] ∧ win2_2.index t = ![0, 0]
    ∧ win2_3.index t = ![t.val, 0] ∧ win2_4.index t = ![t.val, 0] :=
  (by decide +kernel : ∀ t : Fin grid2.N, _)

/-- Row `r` of block `t` is a row of the image. -/
theorem rows2 (t : Fin cfg2.N) (r : Fin 512) : t.val * 512 + r.val < 16384 := by
  have := Nat.lt_of_lt_of_eq t.isLt N_2; omega

/-- The block of the least gray value. -/
theorem blk2_0 (t : Fin cfg2.N) : blk2 W c 0 t (ix2 0 0) = lo W c := by
  unfold lo
  blk_ext! [blk2, idx2 t]

/-- The block of the greatest gray value. -/
theorem blk2_1 (t : Fin cfg2.N) : blk2 W c 1 t (ix2 0 0) = hi W c := by
  unfold hi
  blk_ext! [blk2, idx2 t]

/-- The block of the histogram. -/
theorem blk2_2 (t : Fin cfg2.N) (k : Fin 256) : blk2 W c 2 t (ix2 0 k) = hist W c k := by
  unfold hist
  blk_ext! [blk2, idx2 t]

/-- The blocks of the image. -/
theorem blk2_3 (t : Fin cfg2.N) (r : Fin 512) (q : Fin 1024) :
    blk2 W c 3 t (ix2 r q) = img W c ⟨t.val * 512 + r.val, rows2 t r⟩ q := by
  unfold img
  blk_ext! [blk2, idx2 t]

/-- Where the result block's element goes. -/
theorem emb2_4 (t : Fin cfg2.N) (r : Fin 512) (q : Fin 1024) :
    (win2_4.blk t).view.emb (ix2 r q) = ix2 ⟨t.val * 512 + r.val, rows2 t r⟩ q := by
  blk_ext! [idx2 t]

/-- From the first point on the stored threshold is the chosen one. -/
theorem thrAt_at (n : ℕ) (hn : n < 32) :
    (thrAt W c (n + 1) (ix2 0 0) : EReal) = leastCenter (hist W c) (center (lo W c) (hi W c)) := by
  induction n with
  | zero =>
    have hN : 0 < cfg2.N := Nat.lt_of_lt_of_eq (by omega) N_2.symm
    rw [thrAt_succ W c ⟨0, hN⟩]
    unfold thrStep
    rw [if_pos ((first2_iff ⟨0, hN⟩).2 rfl)]
    refine (chosen_at _ _ _).trans ?_
    rw [blk2_0, blk2_1]
    exact congrArg (fun h => leastCenter h _) (funext fun k => blk2_2 W c _ k)
  | succ n ih =>
    have hN : n + 1 < cfg2.N := Nat.lt_of_lt_of_eq (by omega) N_2.symm
    rw [thrAt_succ W c ⟨n + 1, hN⟩]
    unfold thrStep
    rw [if_neg (fun h => absurd ((first2_iff ⟨n + 1, hN⟩).1 h) (Nat.succ_ne_zero n))]
    exact ih (by omega)

/-- The result's array: the image compared with the threshold. -/
def binary (j : S16384x1024.Idx) : EReal := above (leastCenter (hist W c) (center (lo W c) (hi W c))) (img W c (j 0) (j 1))

/-- The result's array after the call. -/
theorem arr2_4 : (dat2 W c).arrAt 4 cfg2.N = binary W c := by
  refine (dat2 W c).arrAt_eq_of_covers 4 _ (by decide +kernel) (fun t _ y => ?_)
  blk_simp
  rw [dat2_after_4]
  obtain ⟨r, q, rfl⟩ : ∃ (r : Fin 512) (q : Fin 1024), y = ix2 r q := ⟨y 0, y 1, funext fun a => by fin_cases a <;> rfl⟩
  refine (above_at _ _ r q).trans ?_
  rw [only_eq, thrAt_at W c t.val (Nat.lt_of_lt_of_eq t.isLt N_2), blk2_3, emb2_4]
  rfl

end Blocks

/-- The result is the third call's array, image by image. -/
theorem out_at (V : Valuation τ sig (Elt Ideal)) (b : Fin 16) (h w : Fin 1024) :
    (after hostOps3 V ↑main_v23 (ix4 b h w 0) : EReal) = V ↑main_v22 (ix2 ⟨b.val * 1024 + h.val, by omega⟩ w) := by
  unfold hostOps3
  after_results_simp
  pointwise

section Value

variable (m : (ℓ : Loc nD τ sig) → Buf (Elt Ideal) ℓ) (c : Dev nD)

/-- The third call finds the range's ends and the gray image as the second call found them. -/
theorem keep_W5 (r : Ref sig .tc) (h : ∀ w, Pipeline.arrRef cfg1.spec w = r → (cfg1.win w).isOut = false) (h2 : r ∉ hostOps2_W) :
    W5 m c r = W3 m c r :=
  (after_of_writes_sub hostOps2 _ hostOps2_writes h2).trans
    (afterRegion_keeps (dat1 (W3 m) c) (W3 m c) winFacts1.arr_inj (dat1_A (W3 m) c) r h)

/-- THE KERNEL'S VALUE: the gray image compared with the threshold of its gray values. -/
theorem value_W7 (b : Fin 16) (h w : Fin 1024) : (W7 m c ↑main_v23 (ix4 b h w 0) : EReal)
    = above (threshold (batch m c) (lo (W3 m) c) (hi (W3 m) c)) (gray (batch m c) b h w) := by
  have e4 : W6 m c ↑main_v22 = binary (W5 m) c := (afterRegion_arr (dat2 (W5 m) c) (W5 m c) winFacts2.arr_inj 4).trans (arr2_4 (W5 m) c)
  have hl : lo (W5 m) c = lo (W3 m) c := congrFun (keep_W5 m c main_v13 (by decide) (by decide)) _
  have hh : hi (W5 m) c = hi (W3 m) c := congrFun (keep_W5 m c main_v17 (by decide) (by decide)) _
  have hi' : img (W5 m) c = pixel (batch m c) := by
    rw [← img_W3]
    exact funext fun r => funext fun k => congrFun (keep_W5 m c main_v9_0 (by decide) (by decide)) _
  have hc : hist (W5 m) c = fun k => ((count (batch m c) (lo (W3 m) c) (hi (W3 m) c) k : ℝ) : EReal) := funext fun k => hist_W5 m c k
  have hg : pixel (batch m c) ⟨b.val * 1024 + h.val, by omega⟩ w = gray (batch m c) b h w := by
    unfold pixel
    congr 1 <;> exact Fin.ext (by dsimp only; omega)
  unfold W7
  rw [out_at, e4]
  unfold binary threshold
  rw [hl, hh, hi', hc, ← hg]
  rfl

end Value

end Cert.KernelIdeal.Hand
-- ==== Proof.RefBins.lean ====
/- The reference's first stage at `Ideal`: its gray image is the image's pixels, its minimum and maximum are the least and greatest of them,
   and every pixel's integer is its bin. -/
module

public import proofs.«01_k».proof.Proof.RefRun
public import proofs.«01_k».proof.Proof.Gray

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.StableHlo
open Cert.Otsu

variable (V : Valuation τ sig (Elt Ideal))

/-- The weights' contraction is the weighted sum of the channels. -/
theorem weighted (x : Images) (b : Fin 16) (h w : Fin 1024) :
    ∑ k : Fin 3, x (ix4 b h w k) * Ideal.ofBits .f32 (lit0 (S3.rowMajor (ix1 k))) = gray x b h w := by
  have e : ∀ k : Fin 3, S3.rowMajor (ix1 k) = k := fun k => by fin_cases k <;> rfl
  rw [Fin.sum_univ_three, e, e, e]
  show x _ * Ideal.ofBits .f32 0x3E99096C#32 + x _ * Ideal.ofBits .f32 0x3F1645A2#32 + x _ * Ideal.ofBits .f32 0x3DE978D5#32 = _
  rw [ofBits_red, ofBits_green, ofBits_blue]
  rfl

/-- The gray image. -/
theorem gray_v1 (b : Fin 16) (h w : Fin 1024) :
    (after grayOps V ↑main_v1 (ix4 b h w 0) : EReal) = gray (V ↑main_arg0) b h w := by
  unfold grayOps
  after_results_simp
  pointwise
  exact weighted _ b h w

/-- The gray image in one line. -/
theorem gray_v2 (p : Fin 16777216) :
    (after grayOps V ↑main_v2 (ix1 p) : EReal) = pixel (V ↑main_arg0) ⟨p.val / 1024, by omega⟩ ⟨p.val % 1024, by omega⟩ := by
  unfold grayOps
  after_results_simp
  pointwise
  refine (weighted _ _ _ _).trans ?_
  unfold pixel
  congr 1
  exact Fin.ext (by show p.val / 1048576 = p.val / 1024 / 1024; omega)

/-- A pixel's place in the flattened batch. -/
theorem place (r : Fin 16384) (c : Fin 1024) : r.val * 1024 + c.val < 16777216 := by omega

/-- The pixel at row `r` and column `c` in the line. -/
theorem gray_v2_at (r : Fin 16384) (c : Fin 1024) :
    (after grayOps V ↑main_v2 (ix1 ⟨r.val * 1024 + c.val, place r c⟩) : EReal) = pixel (V ↑main_arg0) r c := by
  rw [gray_v2]
  congr 1
  · exact Fin.ext (by show (r.val * 1024 + c.val) / 1024 = r.val; omega)
  · exact Fin.ext (by show (r.val * 1024 + c.val) % 1024 = c.val; omega)

/-- The gray line's elements. -/
def lineOf (p : Fin 16777216) : EReal := after grayOps V ↑main_v2 (ix1 p)

/-- The minimum is a fold over the line. -/
theorem gray_v3 : (after grayOps V ↑main_v3 ix0 : EReal) = Finset.univ.fold min ⊤ (lineOf V) := by
  unfold lineOf grayOps
  after_results_simp
  pointwise
  rw [ofBits_top]

/-- The maximum is a fold over the line. -/
theorem gray_v4 : (after grayOps V ↑main_v4 ix0 : EReal) = Finset.univ.fold max ⊥ (lineOf V) := by
  unfold lineOf grayOps
  after_results_simp
  pointwise
  rw [ofBits_bot]

/-- The minimum is the least gray value. -/
theorem gray_least : IsLeast (V ↑main_arg0) (after grayOps V ↑main_v3 ix0) := fun z => by
  rw [gray_v3, Finset.le_fold_min]
  constructor
  · rintro ⟨-, h⟩ r c
    exact le_of_le_of_eq (b := lineOf V _) (h ⟨r.val * 1024 + c.val, place r c⟩ (Finset.mem_univ _)) (gray_v2_at V r c)
  · intro h
    exact ⟨le_top, fun p _ => le_of_le_of_eq (b := pixel _ _ _) (h _ _) (gray_v2 V p).symm⟩

/-- The maximum is the greatest gray value. -/
theorem gray_greatest : IsGreatest (V ↑main_arg0) (after grayOps V ↑main_v4 ix0) := fun z => by
  rw [gray_v4, Finset.fold_max_le]
  constructor
  · rintro ⟨-, h⟩ r c
    exact le_of_eq_of_le (b := lineOf V _) (gray_v2_at V r c).symm (h ⟨r.val * 1024 + c.val, place r c⟩ (Finset.mem_univ _))
  · intro h
    exact ⟨bot_le, fun p _ => le_of_eq_of_le (b := pixel _ _ _) (gray_v2 V p) (h _ _)⟩

/-- The bins' width. -/
theorem bins_v6 : (after binsOps V ↑main_v6 ix0 : EReal) = width (V ↑main_v3 ix0) (V ↑main_v4 ix0) := by
  unfold binsOps width
  rw [← ofBits_256]
  after_results_simp
  pointwise

/-- The pixels' bins. -/
theorem bins_v12 (p : Fin 16777216) : (after binsOps V ↑main_v12 (ix1 p) : BitVec 32)
    = BitVec.ofNat 32 (bin (V ↑main_v3 ix0) (V ↑main_v4 ix0) (V ↑main_v2 (ix1 p))) := by
  unfold bin width
  rw [← bin_clip_int, ← ofBits_256]
  unfold binsOps
  after_results_simp
  pointwise
  rfl

end Cert.ReferenceIdeal.Hand

end
-- ==== Proof.RefCounts.lean ====
/- The reference's counts and bin centers at `Ideal`: each bin's count is the number of pixels whose integer it is. -/
module

public import proofs.«01_k».proof.Proof.RefRun
public import proofs.«01_k».proof.Proof.Gray

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.StableHlo
open Cert.Otsu

variable (V : Valuation τ sig (Elt Ideal))

/-- The scatter's index for an update is the update's own. -/
theorem own_index (j : S16777216.Idx) (c : Fin scatter_S256_S16777216x1_S16777216_n_0_0_1.scatterDimsToOperandDims.length) :
    scatter_S256_S16777216x1_S16777216_n_0_0_1.siIdx j c = ix2 (j 0) 0 := by
  funext a
  match a with
  | ⟨0, _⟩ => rfl
  | ⟨1, _⟩ => exact Subsingleton.elim (α := Fin 1) _ _

/-- An update's place is its index, read as an integer. -/
theorem landing (idx : IVec S16777216x1 32) (j : S16777216.Idx) (a : Fin S256.rank) :
    scatter_S256_S16777216x1_S16777216_n_0_0_1.start j idx a + scatter_S256_S16777216x1_S16777216_n_0_0_1.window j a
      = (idx (ix2 (j 0) 0)).toInt := by
  obtain rfl : a = 0 := Subsingleton.elim (α := Fin 1) _ _
  unfold ScatterDims.start ScatterDims.window
  rw [dif_pos (by decide), dif_neg (by decide), own_index]
  simp

/-- An update lands on the bin its index names. -/
theorem lands (idx : IVec S16777216x1 32) (j : S16777216.Idx) (k : Fin 256) (n : ℕ) (hn : n < 256)
    (h : idx (ix2 (j 0) 0) = BitVec.ofNat 32 n) :
    scatter_S256_S16777216x1_S16777216_n_0_0_1.resultIdx? j idx = some (ix1 k) ↔ n = k.val := by
  have ht : (BitVec.ofNat 32 n).toInt = (n : ℤ) := by
    rw [BitVec.toInt_eq_toNat_of_lt (by rw [BitVec.toNat_ofNat]; omega), BitVec.toNat_ofNat]; omega
  have hl : ∀ a, scatter_S256_S16777216x1_S16777216_n_0_0_1.start j idx a + scatter_S256_S16777216x1_S16777216_n_0_0_1.window j a = (n : ℤ) :=
    fun a => by rw [landing, h, ht]
  have hs : ∀ a, (S256.size a : ℤ) = 256 := fun a => by obtain rfl : a = 0 := Subsingleton.elim (α := Fin 1) _ _; rfl
  unfold ScatterDims.resultIdx?
  rw [dif_pos (fun a => by rw [hl a, hs a]; omega), Option.some_inj]
  constructor
  · intro e
    have := congrArg Fin.val (congrFun e 0)
    simp only [hl] at this
    simpa using this
  · intro e
    funext a
    obtain rfl : a = 0 := Subsingleton.elim (α := Fin 1) _ _
    refine Fin.ext ?_
    simp only [hl]
    simpa using e

/-- A sum of ones over the pixels of a bin is their number. -/
theorem sum_ones {ι : Type} (S : Finset ι) : ∑ _p ∈ S, (1 : EReal) = ((S.card : ℝ) : EReal) := by
  simp

/-- The indices of the line, and their numbers. -/
def lineEquiv : S16777216.Idx ≃ Fin 16777216 where
  toFun j := j 0
  invFun p := ix1 p
  left_inv j := by funext a; obtain rfl : a = 0 := Subsingleton.elim (α := Fin 1) _ _; rfl
  right_inv p := rfl

/-- The accumulating scatter at a bin: what was there and the updates that land there. -/
theorem scatter_at (x : S256.Idx → EReal) (idx : IVec S16777216x1 32) (upd : S16777216.Idx → EReal) (k : Fin 256) :
    Host.scatterAdd (F := Ideal) (φ := .f32) scatter_S256_S16777216x1_S16777216_n_0_0_1 x idx upd (ix1 k)
      = x (ix1 k) + ∑ j ∈ Finset.univ.filter (fun j => scatter_S256_S16777216x1_S16777216_n_0_0_1.resultIdx? j idx = some (ix1 k)), upd j := by
  unfold Host.scatterAdd
  rw [Ideal.hostScatterAdd_def]
  unfold Ideal.hostScatterAdd
  congr!

/-- Ones scattered into zeros count. -/
theorem scatter_count (x : S256.Idx → EReal) (idx : IVec S16777216x1 32) (upd : S16777216.Idx → EReal) (n : Fin 16777216 → ℕ)
    (hn : ∀ p, n p < 256) (hx : ∀ i, x i = 0) (hu : ∀ j, upd j = 1) (hi : ∀ p, idx (ix2 p 0) = BitVec.ofNat 32 (n p)) (k : Fin 256) :
    Host.scatterAdd (F := Ideal) (φ := .f32) scatter_S256_S16777216x1_S16777216_n_0_0_1 x idx upd (ix1 k)
      = (((Finset.univ.filter fun p : Fin 16777216 => n p = k.val).card : ℝ) : EReal) := by
  rw [scatter_at, hx, zero_add, Finset.sum_congr rfl (fun j _ => hu j), sum_ones]
  have e : (Finset.univ.filter fun j : S16777216.Idx => scatter_S256_S16777216x1_S16777216_n_0_0_1.resultIdx? j idx = some (ix1 k)).card
      = (Finset.univ.filter fun p : Fin 16777216 => n p = k.val).card :=
    Finset.card_equiv lineEquiv fun j => by
      rw [Finset.mem_filter, Finset.mem_filter, lands idx j k (n (j 0)) (hn _) (hi _)]
      exact ⟨fun h => ⟨Finset.mem_univ _, h.2⟩, fun h => ⟨Finset.mem_univ _, h.2⟩⟩
  exact congrArg (fun m : ℕ => ((m : ℝ) : EReal)) e

/-- An index below 256 is not negative, so it is taken as it is. -/
theorem taken (n : ℕ) (hn : n < 256) (a b : BitVec 32) : Scalar.select (IntOp.cmpi .slt (BitVec.ofNat 32 n) 0#32) a b = b := by
  have ht : (BitVec.ofNat 32 n).toInt = (n : ℤ) := by
    rw [BitVec.toInt_eq_toNat_of_lt (by rw [BitVec.toNat_ofNat]; omega), BitVec.toNat_ofNat]; omega
  have h0 : IntOp.cmpi .slt (BitVec.ofNat 32 n) 0#32 = 0#1 := by
    unfold IntOp.cmpi
    show BitVec.ofBool ((BitVec.ofNat 32 n).slt 0#32) = 0#1
    rw [BitVec.slt_eq_decide, ht, decide_eq_false (by show ¬ (n : ℤ) < 0; omega)]
    rfl
  rw [h0]; rfl

/-- A bin's count is the number of the line's elements that fall in it. -/
theorem counts_v21 (n : Fin 16777216 → ℕ) (hn : ∀ p, n p < 256) (hV : ∀ p, V ↑main_v12 (ix1 p) = BitVec.ofNat 32 (n p)) (k : Fin 256) :
    (after countsOps V ↑main_v21 (ix1 k) : EReal) = (((Finset.univ.filter fun p : Fin 16777216 => n p = k.val).card : ℝ) : EReal) := by
  unfold countsOps
  after_results_simp
  refine scatter_count _ _ _ n hn ?_ ?_ ?_ k
  · intro i; pointwise
  · intro j; pointwise
  · intro p
    pointwise
    rw [hV]
    exact taken _ (hn p) _ _

/-- The bins' centers. -/
theorem centers_v28 (k : Fin 256) (mn mx : EReal) (h3 : V ↑main_v3 ix0 = mn) (h6 : V ↑main_v6 ix0 = width mn mx) :
    (after centersOps V ↑main_v28 (ix1 k) : EReal) = center mn mx k := by
  unfold centersOps
  after_results_simp
  pointwise
  have ht : (BitVec.ofNat 32 k.val).toInt = (k.val : ℤ) := by
    rw [BitVec.toInt_eq_toNat_of_lt (by rw [BitVec.toNat_ofNat]; omega), BitVec.toNat_ofNat]; omega
  have hf : (FloatOps.sitofp FTy.f32 (BitVec.ofNat 32 k.val) : Ideal .f32) = ((k.val : ℝ) : EReal) := by
    show (((BitVec.ofNat 32 k.val).toInt : ℝ) : EReal) = _
    rw [ht]; simp
  rw [h3, h6, ofBits_half, hf]
  rfl

end Cert.ReferenceIdeal.Hand

end
-- ==== Proof.RefSums.lean ====
/- The reference's running sums, class means and scores at `Ideal`. A running sum over a window that ends at a bin is the lower sum; the same
   between two reversals is the upper sum. -/
module

public import proofs.«01_k».proof.Proof.RefRun
public import proofs.«01_k».proof.Proof.Gray

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.StableHlo
open Cert.Otsu

variable (V : Valuation τ sig (Elt Ideal))

/-- A left fold by addition is the sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's positions, in order. -/
theorem window_place (n : Fin (⟨1, ![256]⟩ : Shape).numel) (a : Fin 1) :
    (((⟨1, ![256]⟩ : Shape).rowMajor.symm n) a).val = n.val := by
  obtain rfl : a = 0 := Subsingleton.elim _ _
  rw [← Shape.rowMajor_val_one, Equiv.apply_symm_apply]

/-- A window has 256 places. -/
theorem window_numel : (⟨1, ![256]⟩ : Shape).numel = 256 := by decide

/-- The window's positions, each moved on by one bin more than `b`, so that position `n` stands at the bin it reads. -/
def windowEquiv (b : Fin 256) : Fin 256 ≃ Fin (⟨1, ![256]⟩ : Shape).numel :=
  (Equiv.subRight (b + 1)).trans (finCongr window_numel.symm)

/-- The bin at a place of a window. -/
theorem windowEquiv_val (b k : Fin 256) : (windowEquiv b k).val = (k.val + 255 - b.val) % 256 := by
  show (k - (b + 1)).val = _
  rw [Fin.sub_def, Fin.add_def]
  show (256 - (b.val + 1) % 256 + k.val) % 256 = _
  omega

/-- The sum over the 256 bins that end at bin `b`, zero before the first, is the lower sum. -/
theorem running (x : S256.Idx → EReal) (v : S_.Idx → EReal) (hv : v ix0 = 0) (f : Fin 256 → EReal) (hf : ∀ k, x (ix1 k) = f k) (b : Fin 256) :
    Host.reduceWindowAdd (F := Ideal) (φ := .f32) ![256] ![1] ![255] ![0] x v reduceWindows_S256_S256_w256s1p255_0 h_S_ (ix1 b)
      = lower f b := by
  have hv' : v (Shape.Idx.first h_S_) = 0 := (congrArg v (funext fun a => a.elim0)).trans hv
  unfold Host.reduceWindowAdd
  rw [Ideal.hostReduceWindowAdd_def, hv']
  unfold Ideal.hostReduceWindowAdd Host.reduceWindow
  rw [foldl_add, zero_add, ← Fin.sum_univ_def]
  refine (Equiv.sum_comp (windowEquiv b) _).symm.trans (Finset.sum_congr rfl fun k _ => ?_)
  have hp : ∀ a : Fin 1, (ix1 b a).val * (![1] : Fin 1 → ℕ) a + (((⟨1, ![256]⟩ : Shape).rowMajor.symm (windowEquiv b k)) a).val
      = b.val + (k.val + 255 - b.val) % 256 := fun a => by
    obtain rfl : a = 0 := Subsingleton.elim _ _
    rw [window_place, windowEquiv_val]
    show b.val * 1 + _ = _
    omega
  by_cases hk : k ≤ b
  · have hk' : k.val ≤ b.val := hk
    rw [if_pos hk, dif_pos ?_]
    · refine Eq.trans (congrArg x ?_) (hf k)
      funext a
      obtain rfl : a = 0 := Subsingleton.elim (α := Fin 1) _ _
      refine Fin.ext ?_
      show (ix1 b 0).val * (![1] : Fin 1 → ℕ) 0 + (((⟨1, ![256]⟩ : Shape).rowMajor.symm (windowEquiv b k)) 0).val - 255 = k.val
      rw [hp]; omega
    · intro a
      obtain rfl : a = 0 := Subsingleton.elim (α := Fin 1) _ _
      show 255 ≤ (ix1 b 0).val * (![1] : Fin 1 → ℕ) 0 + (((⟨1, ![256]⟩ : Shape).rowMajor.symm (windowEquiv b k)) 0).val
        ∧ (ix1 b 0).val * (![1] : Fin 1 → ℕ) 0 + (((⟨1, ![256]⟩ : Shape).rowMajor.symm (windowEquiv b k)) 0).val - 255 < 256
      rw [hp]; omega
  · have hk' : b.val < k.val := not_le.mp hk
    rw [if_neg hk, dif_neg ?_]
    intro h
    have h0 := (h 0).1
    change 255 ≤ (ix1 b 0).val * (![1] : Fin 1 → ℕ) 0 + (((⟨1, ![256]⟩ : Shape).rowMajor.symm (windowEquiv b k)) 0).val at h0
    rw [hp] at h0
    omega

/-- Reversed, summed and reversed again: the upper sum. -/
theorem lower_rev (f : Fin 256 → EReal) (b : Fin 256) : lower (fun k => f k.rev) b.rev = upper f b := by
  unfold lower upper
  refine (Equiv.sum_comp Fin.revPerm _).symm.trans (Finset.sum_congr rfl fun k _ => ?_)
  show (if k.rev ≤ b.rev then f k.rev.rev else 0) = _
  rw [Fin.rev_rev]
  exact if_congr Fin.rev_le_rev rfl rfl

/-- The running sum of a reversed row, at the bin's mirror image, is the upper sum. -/
theorem running_back (x : S256.Idx → EReal) (v : S_.Idx → EReal) (hv : v ix0 = 0) (f : Fin 256 → EReal) (hf : ∀ k, x (ix1 k) = f k) (b : Fin 256) :
    Host.reduceWindowAdd (F := Ideal) (φ := .f32) ![256] ![1] ![255] ![0] (Host.reverse [0] x) v reduceWindows_S256_S256_w256s1p255_0 h_S_
        (ix1 (if (0 : Fin 1) ∈ [0] then b.rev else b))
      = upper f b := by
  rw [if_pos (by decide), ← lower_rev]
  refine running _ v hv _ (fun k => ?_) _
  pointwise
  exact (congrArg (fun j : Fin 256 => x (ix1 j)) (if_pos (List.mem_singleton.mpr rfl))).trans (hf _)

section Stage

variable (h c : Fin 256 → EReal) (hh : ∀ k, V ↑main_v21 (ix1 k) = h k) (hc : ∀ k, V ↑main_v28 (ix1 k) = c k)

include hh in
/-- The lower classes' weights. -/
theorem sums_v29 (b : Fin 256) : (after sumsOps V ↑main_v29 (ix1 b) : EReal) = lower h b := by
  unfold sumsOps
  after_results_simp
  refine running _ _ ?_ h hh b
  pointwise

include hh in
/-- The upper classes' weights. -/
theorem sums_v32 (b : Fin 256) : (after sumsOps V ↑main_v32 (ix1 b) : EReal) = upper h b := by
  unfold sumsOps
  after_results_simp
  pointwise
  refine running_back _ _ ?_ h hh b
  pointwise

include hh hc

/-- The lower classes' means. -/
theorem sums_v41 (b : Fin 256) : (after sumsOps V ↑main_v41 (ix1 b) : EReal) = mean (lower (fun k => h k * c k) b) (lower h b) := by
  unfold sumsOps
  after_results_simp
  pointwise
  rw [running _ _ (by pointwise) h hh b, running _ _ (by pointwise) (fun k => h k * c k) (fun k => by pointwise; rw [hh, hc]) b]
  rfl

/-- The upper classes' means. -/
theorem sums_v44 (b : Fin 256) : (after sumsOps V ↑main_v44 (ix1 b) : EReal) = mean (upper (fun k => h k * c k) b) (upper h b) := by
  unfold sumsOps
  after_results_simp
  pointwise
  refine congrArg₂ Ideal.div (running_back _ _ (by pointwise) (fun k => h k * c k) (fun k => by pointwise; rw [hh, hc]) b)
    (congrArg₂ max (running_back _ _ (by pointwise) h hh b) rfl)

end Stage

/-- The scores: each of the first 255 bins' cut. -/
theorem scores_v52 (h c : Fin 256 → EReal) (h29 : ∀ b, V ↑main_v29 (ix1 b) = lower h b) (h32 : ∀ b, V ↑main_v32 (ix1 b) = upper h b)
    (h41 : ∀ b, V ↑main_v41 (ix1 b) = mean (lower (fun k => h k * c k) b) (lower h b))
    (h44 : ∀ b, V ↑main_v44 (ix1 b) = mean (upper (fun k => h k * c k) b) (upper h b)) (b : Fin 255) :
    (after scoresOps V ↑main_v52 (ix1 b) : EReal) = scoreOf upper h c ⟨b.val, by omega⟩ := by
  unfold scoresOps
  after_results_simp
  pointwise
  have hn : next ⟨b.val, by omega⟩ = ⟨1 + b.val, by omega⟩ := Fin.ext (by
    show ((b.val + 1) % 256 : ℕ) = _
    show (b.val + 1) % 256 = 1 + b.val
    omega)
  rw [h29, h32, h41, h44, ← hn]
  rfl

end Cert.ReferenceIdeal.Hand

end
-- ==== Proof.RefPick.lean ====
/- The reference's choice at `Ideal`: the first bin with the greatest score, its center, and the comparison with it. -/
module

public import proofs.«01_k».proof.Proof.RefCounts
public import Idealize.ShloMosaic.Lib.StableHlo.RunClose
public import Idealize.ShloMosaic.PureOps.Ideal.Laws

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.StableHlo
open Cert.Otsu

variable (V : Valuation τ sig (Elt Ideal))

/-- One step of the choice, against a bin that scores higher: the later bin is taken. -/
theorem choice_less {a b : EReal} (i j : BitVec 32) (h : a < b) : reducer_argmax_f32_i32 (F := Ideal) (a, i) (b, j) = (b, j) := by
  have h1 : ¬ b < a := not_lt.mpr h.le
  have h2 : ¬ a = b := h.ne
  simp [reducer_argmax_f32_i32, Ideal.cmpf_def, Ideal.cmp, h1, h2, IntOp.ori, IntOp.andi, Scalar.select]

/-- One step of the choice, against a later bin that scores no higher: the earlier bin is kept. -/
theorem choice_keep {a b : EReal} {i j : ℕ} (hj : j < 2147483648) (hij : i < j) (h : b ≤ a) :
    reducer_argmax_f32_i32 (F := Ideal) (a, BitVec.ofNat 32 i) (b, BitVec.ofNat 32 j) = (a, BitVec.ofNat 32 i) := by
  have hs : (BitVec.ofNat 32 i).slt (BitVec.ofNat 32 j) = true := by
    rw [BitVec.slt_eq_decide, decide_eq_true_eq, BitVec.toInt_eq_toNat_of_lt, BitVec.toInt_eq_toNat_of_lt]
    all_goals simp only [BitVec.toNat_ofNat]; omega
  rcases h.lt_or_eq with h | rfl
  · simp [reducer_argmax_f32_i32, Ideal.cmpf_def, Ideal.cmp, h, h.ne', IntOp.ori, IntOp.andi, Scalar.select]
  · simp [reducer_argmax_f32_i32, Ideal.cmpf_def, Ideal.cmp, IntOp.ori, IntOp.andi, Scalar.select, IntOp.cmpi, hs]

/-- One step of the choice, from the start: the first bin is taken. -/
theorem choice_first (b : EReal) : reducer_argmax_f32_i32 (F := Ideal) (⊥, 0#32) (b, 0#32) = (b, 0#32) := by
  rcases (bot_le (a := b)).lt_or_eq with h | rfl
  · exact choice_less _ _ h
  · simp [reducer_argmax_f32_i32, Ideal.cmpf_def, Ideal.cmp, IntOp.ori, IntOp.andi, Scalar.select, IntOp.cmpi]

/-- The choice among `n` bins in order: none at first, then the first of the greatest scores so far. -/
theorem choice (n : ℕ) (s : Fin n → EReal) (hn : n < 2147483648) :
    (n = 0 → (List.finRange n).foldl (fun r k => reducer_argmax_f32_i32 (F := Ideal) r (s k, BitVec.ofNat 32 k.val)) (⊥, 0#32) = (⊥, 0#32))
    ∧ (0 < n → ∃ i : Fin n, (List.finRange n).foldl (fun r k => reducer_argmax_f32_i32 (F := Ideal) r (s k, BitVec.ofNat 32 k.val)) (⊥, 0#32)
          = (s i, BitVec.ofNat 32 i.val) ∧ (∀ j, s j ≤ s i) ∧ ∀ j < i, s j < s i) := by
  induction n with
  | zero => exact ⟨fun _ => rfl, fun h => absurd h (lt_irrefl _)⟩
  | succ n ih =>
    refine ⟨fun h => absurd h (Nat.succ_ne_zero _), fun _ => ?_⟩
    rw [List.finRange_succ_last, List.foldl_append, List.foldl_map]
    obtain ⟨h0, h1⟩ := ih (fun k => s k.castSucc) (by omega)
    rcases Nat.eq_zero_or_pos n with rfl | hp
    · refine ⟨0, ?_, fun j => ?_, fun j hj => absurd hj (Fin.not_lt_zero _)⟩
      · exact choice_first _
      · rw [Subsingleton.elim (α := Fin 1) j 0]
    · obtain ⟨i, hi, hmax, hfirst⟩ := h1 hp
      have hi' : (List.finRange n).foldl (fun r k => reducer_argmax_f32_i32 (F := Ideal) r (s k.castSucc, BitVec.ofNat 32 k.castSucc.val)) (⊥, 0#32)
          = (s i.castSucc, BitVec.ofNat 32 i.val) := hi
      rw [hi']
      rcases lt_or_ge (s i.castSucc) (s (Fin.last n)) with hl | hl
      · refine ⟨Fin.last n, choice_less _ _ hl, fun j => ?_, fun j hj => ?_⟩
        · induction j using Fin.lastCases with
          | last => exact le_rfl
          | cast j => exact (hmax j).trans hl.le
        · induction j using Fin.lastCases with
          | last => exact absurd hj (lt_irrefl _)
          | cast j => exact (hmax j).trans_lt hl
      · refine ⟨i.castSucc, choice_keep (by rw [Fin.val_last]; omega) i.isLt hl, fun j => ?_, fun j hj => ?_⟩
        · induction j using Fin.lastCases with
          | last => exact hl
          | cast j => exact hmax j
        · induction j using Fin.lastCases with
          | last => exact absurd hj (not_lt.mpr (Fin.le_last _))
          | cast j => exact hfirst j hj

/-- The number of scores. -/
theorem numel_255 : S255.numel = 255 := by decide

/-- Score number `n` in row-major order. -/
theorem score_place (n : Fin S255.numel) : S255.rowMajor.symm n = ix1 ⟨n.val, numel_255 ▸ n.isLt⟩ := by
  rw [Equiv.symm_apply_eq]
  exact Fin.ext (by rw [Shape.rowMajor_val_one]; rfl)

/-- The reduction over the scores and their positions ends at the first bin with the greatest score. -/
theorem argmax_at (x : S255.Idx → EReal) (y : S255.Idx → BitVec 32) (u : S_.Idx → EReal) (v : S_.Idx → BitVec 32)
    (hy : ∀ b : Fin 255, y (ix1 b) = BitVec.ofNat 32 b.val) (hu : u ix0 = ⊥) (hv : v ix0 = 0#32) :
    ∃ i : Fin 255, (Host.argReduce (F := Ideal) (φ := .f32) reducer_argmax_f32_i32 x y u v reducesTo_S255_S_d0 h_S_ ix0).2 = BitVec.ofNat 32 i.val
      ∧ (∀ j, x (ix1 j) ≤ x (ix1 i)) ∧ ∀ j < i, x (ix1 j) < x (ix1 i) := by
  obtain ⟨i, hi, hmax, hfirst⟩ := (choice S255.numel (fun n => x (S255.rowMajor.symm n)) (by rw [numel_255]; omega)).2 (by rw [numel_255]; omega)
  have hx : ∀ j : Fin 255, x (ix1 j) = x (S255.rowMajor.symm ⟨j.val, numel_255.symm ▸ j.isLt⟩) := fun j => by rw [score_place]
  refine ⟨⟨i.val, numel_255 ▸ i.isLt⟩, ?_, fun j => ?_, fun j hj => ?_⟩
  · rw [Ideal.argReduce_eq_reduce2]
    unfold Host.reduce2
    rw [List.filter_eq_self.mpr fun n _ => decide_eq_true (funext fun a => a.elim0)]
    have hu' : u (Shape.Idx.first h_S_) = ⊥ := (congrArg u (funext fun a => a.elim0)).trans hu
    have hv' : v (Shape.Idx.first h_S_) = 0#32 := (congrArg v (funext fun a => a.elim0)).trans hv
    have hy' : ∀ n : Fin S255.numel, y (S255.rowMajor.symm n) = BitVec.ofNat 32 n.val := fun n => by rw [score_place, hy]
    simp only [hu', hv', hy']
    exact congrArg Prod.snd hi
  · rw [hx, hx]; exact hmax _
  · rw [hx, hx]; exact hfirst _ hj

/-- The choice is the first bin with the greatest score. -/
theorem best_v53 (s : Fin 255 → EReal) (hs : ∀ b, V ↑main_v52 (ix1 b) = s b) :
    ∃ i : Fin 255, after bestOps V ↑main_v53 ix0 = BitVec.ofNat 32 i.val ∧ (∀ j, s j ≤ s i) ∧ ∀ j < i, s j < s i := by
  obtain ⟨i, hi, hmax, hfirst⟩ := argmax_at (V ↑main_v52) (iotaInDim S255 32 0) (constant (F := Ideal) S_ .f32 0xFF800000#32) (constantI S_ 32 0#32)
    (fun b => by pointwise) (by pointwise; exact ofBits_bot) (by pointwise)
  refine ⟨i, ?_, fun j => ?_, fun j hj => ?_⟩
  · refine Eq.trans ?_ hi
    unfold bestOps
    after_results_simp
  · rw [← hs, ← hs]; exact hmax j
  · rw [← hs, ← hs]; exact hfirst j hj

/-- The threshold is the chosen bin's center. -/
theorem pick_v58 (i : Fin 255) (c : Fin 256 → EReal) (hi : V ↑main_v53 ix0 = BitVec.ofNat 32 i.val) (hc : ∀ b, V ↑main_v28 (ix1 b) = c b) :
    (after pickOps V ↑main_v58 ix0 : EReal) = c ⟨i.val, by omega⟩ := by
  unfold pickOps
  after_results_simp_entrywise
  pointwise
  have hi' : V ↑main_v53 (Shape.Idx.first h_S_) = BitVec.ofNat 32 i.val := (congrArg (V ↑main_v53) (funext fun a => a.elim0)).trans hi
  refine (hc _).trans (congrArg c (Fin.ext ?_))
  rw [hi', taken _ (by omega)]
  have ht : (BitVec.ofNat 32 i.val).toInt = i.val := by
    rw [BitVec.toInt_eq_toNat_of_lt] <;> simp only [BitVec.toNat_ofNat] <;> omega
  rw [ht]
  show (min (max ((i.val : ℕ) : ℤ) 0) ((256 - 1 : ℕ) : ℤ)).toNat = i.val
  omega

/-- The result: one where the gray value is above the threshold, zero elsewhere. -/
theorem compare_v62 (g t : EReal) (b : Fin 16) (h w : Fin 1024) (hg : V ↑main_v1 (ix4 b h w 0) = g) (ht : V ↑main_v58 ix0 = t) :
    (after compareOps V ↑main_v62 (ix4 b h w 0) : EReal) = above t g := by
  unfold compareOps
  after_results_simp
  simp only [id_eq]
  pointwise
  rw [hg, ht]
  rfl

end Cert.ReferenceIdeal.Hand
-- ==== Proof.RefValue.lean ====
/- The reference's result at `Ideal`: the stages' values put together. -/
module

public import proofs.«01_k».proof.Proof.RefBins
public import proofs.«01_k».proof.Proof.RefCounts
public import proofs.«01_k».proof.Proof.RefSums
public import proofs.«01_k».proof.Proof.RefPick

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.StableHlo
open Cert.Otsu

/-- A pixel's place in the line of all of them, as its row and its column. -/
def placeEquiv : Fin 16777216 ≃ Fin 16384 × Fin 1024 where
  toFun p := (⟨p.val / 1024, by omega⟩, ⟨p.val % 1024, by omega⟩)
  invFun rc := ⟨rc.1.val * 1024 + rc.2.val, by omega⟩
  left_inv p := Fin.ext (by show p.val / 1024 * 1024 + p.val % 1024 = p.val; omega)
  right_inv rc := Prod.ext (Fin.ext (by show (rc.1.val * 1024 + rc.2.val) / 1024 = rc.1.val; omega))
    (Fin.ext (by show (rc.1.val * 1024 + rc.2.val) % 1024 = rc.2.val; omega))

/-- Matching sets have as many elements. -/
theorem card_match {α β : Type} [Fintype α] [Fintype β] (e : α ≃ β) (P : α → Prop) (Q : β → Prop) [DecidablePred P] [DecidablePred Q]
    (h : ∀ p, P p ↔ Q (e p)) : (Finset.univ.filter P).card = (Finset.univ.filter Q).card :=
  Finset.card_equiv e fun p => by rw [Finset.mem_filter, Finset.mem_filter, h p]; simp only [Finset.mem_univ]

/-- Counting along the line is counting over rows and columns. -/
theorem count_line (x : Images) (mn mx : EReal) (k : Fin 256) :
    (Finset.univ.filter fun p : Fin 16777216 => bin mn mx (pixel x ⟨p.val / 1024, by omega⟩ ⟨p.val % 1024, by omega⟩) = k.val).card = count x mn mx k := by
  unfold Otsu.count
  exact card_match placeEquiv _ _ fun p => Iff.rfl

/-- The reference's result: each pixel compared with the threshold of the batch. -/
theorem value (V : Valuation τ sig (Elt Ideal)) : ∃ mn mx : EReal, IsLeast (V ↑main_arg0) mn ∧ IsGreatest (V ↑main_arg0) mx
    ∧ ∀ b h w, after allOps V ↑main_v62 (ix4 b h w 0) = above (threshold (V ↑main_arg0) mn mx) (gray (V ↑main_arg0) b h w) := by
  obtain ⟨mn, hmn⟩ : ∃ mn, mn = after grayOps V ↑main_v3 ix0 := ⟨_, rfl⟩
  obtain ⟨mx, hmx⟩ : ∃ mx, mx = after grayOps V ↑main_v4 ix0 := ⟨_, rfl⟩
  have hleast : IsLeast (V ↑main_arg0) mn := hmn ▸ gray_least V
  have hgreatest : IsGreatest (V ↑main_arg0) mx := hmx ▸ gray_greatest V
  refine ⟨mn, mx, hleast, hgreatest, fun b h w => ?_⟩
  unfold allOps
  simp only [after_two]
  obtain ⟨n, hn⟩ : ∃ n : Fin 16777216 → ℕ, n = fun p => bin mn mx (pixel (V ↑main_arg0) ⟨p.val / 1024, by omega⟩ ⟨p.val % 1024, by omega⟩) := ⟨_, rfl⟩
  obtain ⟨V1, h1⟩ : ∃ V1, V1 = after grayOps V := ⟨_, rfl⟩
  have g1 : V1 ↑main_v1 (ix4 b h w 0) = gray (V ↑main_arg0) b h w := h1 ▸ gray_v1 V b h w
  have g2 : ∀ p, V1 ↑main_v2 (ix1 p) = pixel (V ↑main_arg0) ⟨p.val / 1024, by omega⟩ ⟨p.val % 1024, by omega⟩ := fun p => h1 ▸ gray_v2 V p
  have g3 : V1 ↑main_v3 ix0 = mn := h1 ▸ hmn.symm
  have g4 : V1 ↑main_v4 ix0 = mx := h1 ▸ hmx.symm
  rw [← h1]
  clear h1 hmn hmx
  obtain ⟨V2, h2⟩ : ∃ V2, V2 = after binsOps V1 := ⟨_, rfl⟩
  have b1 : V2 ↑main_v1 (ix4 b h w 0) = gray (V ↑main_arg0) b h w := by rw [h2, after_of_writes_sub binsOps _ binsOps_writes (by decide)]; exact g1
  have b3 : V2 ↑main_v3 ix0 = mn := by rw [h2, after_of_writes_sub binsOps _ binsOps_writes (by decide)]; exact g3
  have b6 : V2 ↑main_v6 ix0 = width mn mx := by rw [h2]; exact (bins_v6 V1).trans (congrArg₂ width g3 g4)
  have b12 : ∀ p, V2 ↑main_v12 (ix1 p) = BitVec.ofNat 32 (n p) := fun p => by
    rw [h2, hn]
    refine (bins_v12 V1 p).trans ?_
    rw [g3, g4, g2]
  rw [← h2]
  clear h2 g1 g2 g3 g4
  obtain ⟨V3, h3⟩ : ∃ V3, V3 = after countsOps V2 := ⟨_, rfl⟩
  have c1 : V3 ↑main_v1 (ix4 b h w 0) = gray (V ↑main_arg0) b h w := by rw [h3, after_of_writes_sub countsOps _ countsOps_writes (by decide)]; exact b1
  have c3 : V3 ↑main_v3 ix0 = mn := by rw [h3, after_of_writes_sub countsOps _ countsOps_writes (by decide)]; exact b3
  have c6 : V3 ↑main_v6 ix0 = width mn mx := by rw [h3, after_of_writes_sub countsOps _ countsOps_writes (by decide)]; exact b6
  have c21 : ∀ k, V3 ↑main_v21 (ix1 k) = ((count (V ↑main_arg0) mn mx k : ℝ) : EReal) := fun k => by
    rw [h3, ← count_line]
    subst hn
    exact counts_v21 V2 _ (fun p => bin_lt _ _ _) b12 k
  rw [← h3]
  clear h3 b1 b3 b6 b12
  obtain ⟨V4, h4⟩ : ∃ V4, V4 = after centersOps V3 := ⟨_, rfl⟩
  have d1 : V4 ↑main_v1 (ix4 b h w 0) = gray (V ↑main_arg0) b h w := by rw [h4, after_of_writes_sub centersOps _ centersOps_writes (by decide)]; exact c1
  have d21 : ∀ k, V4 ↑main_v21 (ix1 k) = ((count (V ↑main_arg0) mn mx k : ℝ) : EReal) := fun k => by
    rw [h4, after_of_writes_sub centersOps _ centersOps_writes (by decide)]; exact c21 k
  have d28 : ∀ k, V4 ↑main_v28 (ix1 k) = center mn mx k := fun k => h4 ▸ centers_v28 V3 k mn mx c3 c6
  rw [← h4]
  clear h4 c1 c3 c6 c21
  obtain ⟨V5, h5⟩ : ∃ V5, V5 = after sumsOps V4 := ⟨_, rfl⟩
  have e1 : V5 ↑main_v1 (ix4 b h w 0) = gray (V ↑main_arg0) b h w := by rw [h5, after_of_writes_sub sumsOps _ sumsOps_writes (by decide)]; exact d1
  have e28 : ∀ k, V5 ↑main_v28 (ix1 k) = center mn mx k := fun k => by
    rw [h5, after_of_writes_sub sumsOps _ sumsOps_writes (by decide)]; exact d28 k
  have e29 := sums_v29 V4 _ d21
  have e32 := sums_v32 V4 _ d21
  have e41 := sums_v41 V4 _ _ d21 d28
  have e44 := sums_v44 V4 _ _ d21 d28
  rw [← h5] at e29 e32 e41 e44 ⊢
  clear h5 d1 d21 d28
  obtain ⟨V6, h6⟩ : ∃ V6, V6 = after scoresOps V5 := ⟨_, rfl⟩
  have f1 : V6 ↑main_v1 (ix4 b h w 0) = gray (V ↑main_arg0) b h w := by rw [h6, after_of_writes_sub scoresOps _ scoresOps_writes (by decide)]; exact e1
  have f28 : ∀ k, V6 ↑main_v28 (ix1 k) = center mn mx k := fun k => by
    rw [h6, after_of_writes_sub scoresOps _ scoresOps_writes (by decide)]; exact e28 k
  have f52 := scores_v52 V5 _ _ e29 e32 e41 e44
  rw [← h6] at f52 ⊢
  clear h6 e1 e28 e29 e32 e41 e44
  obtain ⟨i, hi, hmax, hfirst⟩ := best_v53 V6 _ f52
  obtain ⟨V7, h7⟩ : ∃ V7, V7 = after bestOps V6 := ⟨_, rfl⟩
  have p1 : V7 ↑main_v1 (ix4 b h w 0) = gray (V ↑main_arg0) b h w := by rw [h7, after_of_writes_sub bestOps _ bestOps_writes (by decide)]; exact f1
  have p28 : ∀ k, V7 ↑main_v28 (ix1 k) = center mn mx k := fun k => by
    rw [h7, after_of_writes_sub bestOps _ bestOps_writes (by decide)]; exact f28 k
  rw [← h7] at hi ⊢
  clear h7 f1 f28 f52
  have q58 := pick_v58 V7 i _ hi p28
  have q1 : after pickOps V7 ↑main_v1 (ix4 b h w 0) = gray (V ↑main_arg0) b h w := by
    rw [after_of_writes_sub pickOps _ pickOps_writes (by decide)]; exact p1
  refine (compare_v62 (after pickOps V7) _ _ b h w q1 q58).trans (congrArg (fun t => above t _) ?_)
  exact (leastCenter_eq mn mx (hleast.le hgreatest) (count (V ↑main_arg0) mn mx) ⟨i.val, by omega⟩ i.isLt
    (fun j hj => hmax ⟨j.val, hj⟩) (fun j hj => hfirst ⟨j.val, by have : j.val < i.val := hj; omega⟩ hj)).symm

end Cert.ReferenceIdeal.Hand
-- ==== Proof.Algebraic.lean ====
module

public import proofs.«01_k».proof.Defs
public import proofs.«01_k».proof.Proof.KValue
public import proofs.«01_k».proof.Proof.RefValue

/-! # The value

The idealized kernel and the reference leave the same result: both compare the gray image with the same threshold. -/

@[expose] public section

noncomputable section

namespace Cert.Proof

open Idealize.ShloMosaic Idealize.ShloMosaic.TcCoe Idealize.SL.Sem
open Cert.Otsu

/-- A batch's results are told apart by image, row and column. -/
theorem ext_out {f g : (⟨4, ![16, 1024, 1024, 1]⟩ : Shape).Idx → EReal} (h : ∀ b r w, f (ix4 b r w 0) = g (ix4 b r w 0)) : f = g := funext fun i => by
  have e : i = ix4 (i 0) (i 1) (i 2) 0 := funext fun a => Fin.ext (by
    match a with
    | ⟨0, _⟩ => rfl
    | ⟨1, _⟩ => rfl
    | ⟨2, _⟩ => rfl
    | ⟨3, _⟩ => have h3 : (i 3).val < 1 := (i 3).isLt; show (i 3).val = 0; omega)
  rw [e]
  exact h _ _ _

/-- On equal batches the reference's result is the kernel's. -/
theorem same_value (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hV : V Cert.ReferenceIdeal.main_arg0 = Cert.KernelIdeal.Hand.batch m c) :
    StableHlo.after Cert.ReferenceIdeal.Hand.allOps V Cert.ReferenceIdeal.main_v62
      = Cert.KernelIdeal.Hand.W7 m c Cert.KernelIdeal.main_v23 := by
  obtain ⟨mn, mx, hmn, hmx, hv⟩ := Cert.ReferenceIdeal.Hand.value V
  rw [hV] at hmn hmx hv
  refine ext_out fun b r w => (hv b r w).trans ?_
  rw [hmn.eq (Cert.KernelIdeal.Hand.least_W3 m c), hmx.eq (Cert.KernelIdeal.Hand.greatest_W3 m c)]
  exact (Cert.KernelIdeal.Hand.value_W7 m c b r w).symm

/-- The idealized kernel computes the reference's values. -/
theorem algebraic : @Cert.algebraic_KernelIdeal_ReferenceIdeal Cert.KernelIdeal.Gen.facts Cert.ReferenceIdeal.Gen.facts :=
  fun m g m' g' _ hin => ⟨fun c => Cert.KernelIdeal.Hand.W7 m c Cert.KernelIdeal.main_v23,
    (θ_run _ _ _).mono (fun _ h c => h.1 c) (Cert.KernelIdeal.Hand.run (F := Ideal) m g),
    (θ_run _ _ _).mono (fun _ h c => ⟨(h c Cert.ReferenceIdeal.main_v62).trans (same_value m _ c (hin c)),
      (h c Cert.ReferenceIdeal.main_arg0).trans (Cert.ReferenceIdeal.Hand.allOps_arg0 _)⟩) (Cert.ReferenceIdeal.Hand.run (F := Ideal) m' g')⟩

end Cert.Proof

end
-- ==== Proof.lean ====
module

public import proofs.«01_k».proof.Defs
public import proofs.«01_k».proof.Proof.Frames
public import proofs.«01_k».proof.Proof.Algebraic

@[expose] public section

noncomputable section

namespace Cert.Proof

/-- Everything the certificate claims: the three frames, the idealization, and that the idealized kernel computes the
    reference's values. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
